-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S1024x200 : Shape := ⟨2, ![1024, 200]⟩
abbrev S100000x128 : Shape := ⟨2, ![100000, 128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S100000x128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S100000x128 : Shape := ⟨2, ![100000, 128]⟩
abbrev S32x50x128 : Shape := ⟨3, ![32, 50, 128]⟩
abbrev S32x50x128x128 : Shape := ⟨4, ![32, 50, 128, 128]⟩
abbrev S50x128 : Shape := ⟨2, ![50, 128]⟩
abbrev S128x128 : Shape := ⟨2, ![128, 128]⟩
abbrev S_ : Shape := ⟨0, ![]⟩
abbrev S1x50x128 : Shape := ⟨3, ![1, 50, 128]⟩
abbrev S1x128 : Shape := ⟨2, ![1, 128]⟩
abbrev S128 : Shape := ⟨1, ![128]⟩
abbrev S1x1x128x128 : Shape := ⟨4, ![1, 1, 128, 128]⟩
abbrev S1024x200x128 : Shape := ⟨3, ![1024, 200, 128]⟩

abbrev nBuf : Table → Nat
  | .hbm => 10
  | .local .tc .vmem => 2
  | .local .scVector .vmem => 2
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S32x50x128, .i32⟩
  | .hbm, ⟨3, _⟩ => ⟨S32x50x128x128, .f32⟩
  | .hbm, ⟨4, _⟩ => ⟨S1024x200x128, .f32⟩
  | .hbm, ⟨5, _⟩ => ⟨S1024x200, .i8⟩
  | .hbm, ⟨6, _⟩ => ⟨S_, .i8⟩
  | .hbm, ⟨7, _⟩ => ⟨S1024x200, .i8⟩
  | .hbm, ⟨8, _⟩ => ⟨S1024x200, .i1⟩
  | .hbm, ⟨9, _⟩ => ⟨S1024x200, .i1⟩
  | .local .tc .vmem, ⟨0, _⟩ => ⟨S1024x200, .i32⟩
  | .local .tc .vmem, ⟨1, _⟩ => ⟨S1024x200, .i8⟩
  | .local .scVector .vmem, ⟨0, _⟩ => ⟨S50x128, .i32⟩
  | .local .scVector .vmem, ⟨1, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k0_t1_loop : Scf.Loop 32 :=
  let c0_i32_0 : BitVec 32 := 0#32
  let c50_i32 : BitVec 32 := 50#32
  let v2 : BitVec 32 := Scalar.addi c0_i32_0 c50_i32
  let c1_i32 : BitVec 32 := 1#32
  ⟨c0_i32_0, v2, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c0_i32_2 : BitVec 32 := 0#32
  ![arg8.toNat, 0]
def k0_off3 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg8 : BitVec 32 := Scf.iv c0_i32_0 c1_i32 k0_t1
  let c0_i32_8_r1 : BitVec 32 := 0#32
  let c0_i32_9_r1 : BitVec 32 := 0#32
  ![v1.toNat, arg8.toNat, 0, 0]
abbrev grid1 : Pipeline.Grid := .none

abbrev stage1_0 : Fin 1 → Memref sig .tc .vmem S1024x200 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x200 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩

abbrev nBuf : Space → Nat
  | .hbm => 28
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S_, .i32⟩
  | .hbm, ⟨3, _⟩ => ⟨S1024x200, .i32⟩
  | .hbm, ⟨4, _⟩ => ⟨S1024x200, .i1⟩
  | .hbm, ⟨5, _⟩ => ⟨S_, .i32⟩
  | .hbm, ⟨6, _⟩ => ⟨S1024x200, .i32⟩
  | .hbm, ⟨7, _⟩ => ⟨S1024x200, .i32⟩
  | .hbm, ⟨8, _⟩ => ⟨S1024x200, .i32⟩
  | .hbm, ⟨9, _⟩ => ⟨S1024x200x1, .i32⟩
  | .hbm, ⟨10, _⟩ => ⟨S1, .i32⟩
  | .hbm, ⟨11, _⟩ => ⟨S_, .i32⟩
  | .hbm, ⟨12, _⟩ => ⟨S1024x200x1, .i32⟩
  | .hbm, ⟨13, _⟩ => ⟨S1024x200x1, .i1⟩
  | .hbm, ⟨14, _⟩ => ⟨S1x1x1, .i32⟩
  | .hbm, ⟨15, _⟩ => ⟨S1024x200x1, .i32⟩
  | .hbm, ⟨16, _⟩ => ⟨S1024x200x1, .i1⟩
  | .hbm, ⟨17, _⟩ => ⟨S1024x200x1, .i1⟩
  | .hbm, ⟨18, _⟩ => ⟨S_, .i1⟩
  | .hbm, ⟨19, _⟩ => ⟨S1024x200, .i1⟩
  | .hbm, ⟨20, _⟩ => ⟨S1024x200x128, .f32⟩
  | .hbm, ⟨21, _⟩ => ⟨S1024x200x128, .i1⟩
  | .hbm, ⟨22, _⟩ => ⟨S_, .f32⟩
  | .hbm, ⟨23, _⟩ => ⟨S1024x200x128, .f32⟩
  | .hbm, ⟨24, _⟩ => ⟨S1024x200x128, .f32⟩
  | .hbm, ⟨25, _⟩ => ⟨S_, .i32⟩
  | .hbm, ⟨26, _⟩ => ⟨S1024x200, .i32⟩
  | .hbm, ⟨27, _⟩ => ⟨S1024x200, .i1⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Ideal.Tile.lean ====
/-
  One worker's task of the SparseCore call (`cc0__emb_body`). A worker owns row `2 * s + c` of the token array (split in
  32 rows of 50 chunks of 128 tokens) and the same row of the result. It copies its tokens into its memory, then for each
  of the 50 chunks gathers the 128 table rows the chunk names and copies them to the chunk's place in the result.
  Proved here: the task ends with its row of the result holding exactly the named table rows (`tile_body`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, and the ghost state -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipeline's rounds, the transfers' counters. -/
abbrev UH : Type := URounds (GSem nD τ sig) ℕ
abbrev UP : Type := URounds (GSem nD τ sig) Unit
abbrev UU : Type := UH × UP × Counters

local notation "𝕄" => MT nD τ sig (HIx 1) (Elt F) ℕ UU ℕ

/-! ## The arrays the task reads and writes -/

abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

abbrev iV : Memref sig .scVector .hbm S32x50x128 .i32 := Memref.whole main_v0_scv
abbrev xV : Memref sig .scVector .hbm S100000x128 .f32 := Memref.whole main_arg1_scv
abbrev oV : Memref sig .scVector .hbm S32x50x128x128 .f32 := Memref.whole main_v1_scv
abbrev sV : Memref sig .scVector .vmem S50x128 .i32 := Memref.whole cc0_scratch0
abbrev rV : Memref sig .scVector .vmem S128x128 .f32 := Memref.whole cc0_scratch1

/-- Row `w` of the tokens, and row `w` of the result. -/
def iRowSet (w : ℕ) : Finset S32x50x128.Idx := Finset.univ.filter fun j => (j 0).val = w
def oRowSet (w : ℕ) : Finset S32x50x128x128.Idx := Finset.univ.filter fun j => (j 0).val = w

theorem mem_iRowSet {w : ℕ} {j : S32x50x128.Idx} : j ∈ iRowSet w ↔ (j 0).val = w := by simp [iRowSet]
theorem mem_oRowSet {w : ℕ} {j : S32x50x128x128.Idx} : j ∈ oRowSet w ↔ (j 0).val = w := by simp [oRowSet]

/-- The place of the token whose table row sits at `j`: the last coordinate dropped. -/
def tokAt (j : S32x50x128x128.Idx) : S32x50x128.Idx :=
  fun a => ⟨(j a.castSucc).val, by have := (j a.castSucc).isLt; fin_cases a <;> exact this⟩

/-- The gathered rows: at `j` the table at the row `j`'s token names, lane `j 3`. -/
def gath {α : Type} (ix : S32x50x128.Idx → BitVec 32) (tab : S100000x128.Idx → α) (j : S32x50x128x128.Idx) : α :=
  tab (Shape.pair (d := ![100000, 128]) ⟨(ix (tokAt j)).toNat % 100000, Nat.mod_lt _ (by decide)⟩ (j 3))

/-- The result's contents before chunk `k`: the chunks before it gathered, the rest as found. -/
def upTo {α : Type} (g f : S32x50x128x128.Idx → α) (k : ℕ) (j : S32x50x128x128.Idx) : α := if (j 1).val < k then g j else f j

/-! ### What a task holds of the three arrays -/

abbrev iRowPts (d : Dev nD) (w : ℕ) (ix : Buf (Elt F) (iLoc d)) : sProp 𝕄 := iLoc d ↦[iRowSet w]{fullShare} ix
abbrev xShPts (d : Dev nD) (q : PosShare TreeShare) (x : Buf (Elt F) (xLoc d)) : sProp 𝕄 := xLoc d ↦{q} x
abbrev oRowPts (d : Dev nD) (w : ℕ) (f : Buf (Elt F) (oLoc d)) : sProp 𝕄 := oLoc d ↦[oRowSet w]{fullShare} f

section Tile

variable [FloatOps F]
variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)
/-- The worker's number. -/
abbrev wid (L : grid0.Coords) : ℕ := 2 * (L 1).val + (L 0).val

abbrev irowK (L : grid0.Coords) : Rect S32x50x128 := Rect.unit (s := S32x50x128) (k0_off1 L) S1x50x128.size (k0_off1_inb L)
abbrev ochK (L : grid0.Coords) (k : Fin k0_t1_loop.trips) : Rect S32x50x128x128 :=
  Rect.unit (s := S32x50x128x128) (k0_off3 L k) S1x1x128x128.size (k0_off3_inb L k)
/-- The worker's tokens, chunk `k`'s tokens in its own memory, chunk `k`'s place in the result, the table, as the task addresses them. -/
abbrev iRowK (L : grid0.Coords) : Memref sig .scVector .hbm S50x128 .i32 := (iV.slice (irowK L) (fun _ => rfl)).squeeze S50x128 squeezes_S1x50x128_S50x128
abbrev sChK (k : Fin k0_t1_loop.trips) : Memref sig .scVector .vmem S128 .i32 :=
  (sV.slice (Rect.unit (s := S50x128) (k0_off2 k) S1x128.size (k0_off2_inb k)) (fun _ => rfl)).squeeze S128 squeezes_S1x128_S128
abbrev oChK (L : grid0.Coords) (k : Fin k0_t1_loop.trips) : Memref sig .scVector .hbm S128x128 .f32 :=
  (oV.slice (ochK L k) (fun _ => rfl)).squeeze S128x128 squeezes_S1x1x128x128_S128x128
abbrev xAllK : Memref sig .scVector .hbm S100000x128 .f32 := xV.slice (Rect.unit (s := S100000x128) ![0, 0] S100000x128.size inb_S100000x128_S100000x128_0_0) (fun _ => rfl)

omit [FloatOps F] in
theorem trips_eq : k0_t1_loop.trips = 50 := by decide

/-! ### Where the task's views sit -/

omit [FloatOps F] in
theorem wid_lt : 2 * (L 1).val + (L 0).val < 32 := by
  have h0 : (L 0).val < 2 := (L 0).isLt
  have h1 : (L 1).val < 16 := (L 1).isLt
  omega

omit [FloatOps F] in
theorem set_iRowK : (iRowK L).view.set = iRowSet (wid L) := by
  show ((iV.view.slice (irowK L)).reshape S50x128 squeezes_S1x50x128_S50x128.numel_eq).set = _
  rw [View.set_reshape, View.set_slice_whole]
  ext j
  rw [Rect.mem_set_unit, mem_iRowSet, k0_off1_eq]
  have h1 : (j 1).val < 50 := (j 1).isLt
  have h2 : (j 2).val < 128 := (j 2).isLt
  constructor
  · intro h
    have h0 : 2 * (L 1).val + (L 0).val ≤ (j 0).val ∧ (j 0).val < 2 * (L 1).val + (L 0).val + 1 := h 0
    show (j 0).val = 2 * (L 1).val + (L 0).val
    omega
  · intro h a
    have h : (j 0).val = 2 * (L 1).val + (L 0).val := h
    match a with
    | 0 => show 2 * (L 1).val + (L 0).val ≤ (j 0).val ∧ (j 0).val < 2 * (L 1).val + (L 0).val + 1; omega
    | 1 => show 0 ≤ (j 1).val ∧ (j 1).val < 0 + 50; omega
    | 2 => show 0 ≤ (j 2).val ∧ (j 2).val < 0 + 128; omega

omit [FloatOps F] in
/-- Chunk `k`'s place in the result: row `wid L`, chunk `k`. -/
theorem mem_oChK (k : Fin k0_t1_loop.trips) (j : S32x50x128x128.Idx) :
    j ∈ (oChK L k).view.set ↔ (j 0).val = wid L ∧ (j 1).val = k.val := by
  have e : (oChK L k).view.set = (ochK L k).set := by
    show ((oV.view.slice (ochK L k)).reshape S128x128 squeezes_S1x1x128x128_S128x128.numel_eq).set = _
    rw [View.set_reshape]; exact View.set_slice_whole _ _
  rw [e, Rect.mem_set_unit, k0_off3_eq]
  have h2 : (j 2).val < 128 := (j 2).isLt
  have h3 : (j 3).val < 128 := (j 3).isLt
  constructor
  · intro h
    have h0 : 2 * (L 1).val + (L 0).val ≤ (j 0).val ∧ (j 0).val < 2 * (L 1).val + (L 0).val + 1 := h 0
    have h1 : k.val ≤ (j 1).val ∧ (j 1).val < k.val + 1 := h 1
    show (j 0).val = 2 * (L 1).val + (L 0).val ∧ _
    omega
  · rintro ⟨h, h'⟩ a
    have h : (j 0).val = 2 * (L 1).val + (L 0).val := h
    match a with
    | 0 => show 2 * (L 1).val + (L 0).val ≤ (j 0).val ∧ (j 0).val < 2 * (L 1).val + (L 0).val + 1; omega
    | 1 => show k.val ≤ (j 1).val ∧ (j 1).val < k.val + 1; omega
    | 2 => show 0 ≤ (j 2).val ∧ (j 2).val < 0 + 128; omega
    | 3 => show 0 ≤ (j 3).val ∧ (j 3).val < 0 + 128; omega

omit [FloatOps F] in
theorem emb_iRowK (x : S50x128.Idx) : ((iRowK L).view.emb x 0).val = wid L
    ∧ ((iRowK L).view.emb x 1).val = (x 0).val ∧ ((iRowK L).view.emb x 2).val = (x 1).val := by
  have e : (iRowK L).view.emb x = (irowK L).emb (Shape.reshapeEquiv squeezes_S1x50x128_S50x128.numel_eq x) := rfl
  have r : Shape.reshapeEquiv squeezes_S1x50x128_S50x128.numel_eq x = (Fin.cons (⟨0, Nat.one_pos⟩ : Fin 1) x : S1x50x128.Idx) :=
    Shape.reshapeEquiv_cons_one (d := ![50, 128]) _ x
  rw [e, r]
  refine ⟨?_, ?_, ?_⟩ <;> refine (ValueKit.rect_emb_unit_val _ _ _ _ _).trans ?_
  · exact (congrArg (· + 0) (congrFun (k0_off1_eq L) 0)).trans rfl
  · exact (congrArg (· + (x 0).val) (congrFun (k0_off1_eq L) 1)).trans (Nat.zero_add _)
  · exact (congrArg (· + (x 1).val) (congrFun (k0_off1_eq L) 2)).trans (Nat.zero_add _)

omit [FloatOps F] in
theorem emb_sChK (k : Fin k0_t1_loop.trips) (x : S128.Idx) : ((sChK k).view.emb x 0).val = k.val
    ∧ ((sChK k).view.emb x 1).val = (x 0).val := by
  have e : (sChK k).view.emb x = (Rect.unit (s := S50x128) (k0_off2 k) S1x128.size (k0_off2_inb k)).emb (Shape.reshapeEquiv squeezes_S1x128_S128.numel_eq x) := rfl
  have r : Shape.reshapeEquiv squeezes_S1x128_S128.numel_eq x = (Fin.cons (⟨0, Nat.one_pos⟩ : Fin 1) x : S1x128.Idx) :=
    Shape.reshapeEquiv_cons_one (d := ![128]) _ x
  rw [e, r]
  refine ⟨?_, ?_⟩ <;> refine (ValueKit.rect_emb_unit_val _ _ _ _ _).trans ?_
  · exact (congrArg (· + 0) (congrFun (k0_off2_eq k) 0)).trans rfl
  · exact (congrArg (· + (x 0).val) (congrFun (k0_off2_eq k) 1)).trans (Nat.zero_add _)

omit [FloatOps F] in
theorem emb_oChK (k : Fin k0_t1_loop.trips) (x : S128x128.Idx) : ((oChK L k).view.emb x 0).val = wid L ∧ ((oChK L k).view.emb x 1).val = k.val
    ∧ ((oChK L k).view.emb x 2).val = (x 0).val ∧ ((oChK L k).view.emb x 3).val = (x 1).val := by
  have e : (oChK L k).view.emb x = (ochK L k).emb (Shape.reshapeEquiv squeezes_S1x1x128x128_S128x128.numel_eq x) := rfl
  have r : Shape.reshapeEquiv squeezes_S1x1x128x128_S128x128.numel_eq x
      = (Fin.cons (⟨0, Nat.one_pos⟩ : Fin 1) (Fin.cons (⟨0, Nat.one_pos⟩ : Fin 1) x : (⟨3, ![1, 128, 128]⟩ : Shape).Idx) : S1x1x128x128.Idx) := by
    apply Shape.reshapeEquiv_eq_of_rowMajor
    rw [Shape.rowMajor_val_four, Shape.rowMajor_val_two]
    show ((0 * _ + 0) * 128 + (x 0).val) * 128 + (x 1).val = (x 0).val * 128 + (x 1).val
    omega
  rw [e, r]
  refine ⟨?_, ?_, ?_, ?_⟩ <;> refine (ValueKit.rect_emb_unit_val _ _ _ _ _).trans ?_
  · exact (congrArg (· + 0) (congrFun (k0_off3_eq L k) 0)).trans rfl
  · exact (congrArg (· + 0) (congrFun (k0_off3_eq L k) 1)).trans rfl
  · exact (congrArg (· + (x 0).val) (congrFun (k0_off3_eq L k) 2)).trans (Nat.zero_add _)
  · exact (congrArg (· + (x 1).val) (congrFun (k0_off3_eq L k) 3)).trans (Nat.zero_add _)

/-! ### The values -/

/-- The worker's tokens as its own memory holds them. -/
abbrev toks (ix : Buf (Elt F) (iLoc d)) : S50x128.Idx → Elt F .i32 := (iRowK L).view.read (Elt F) ix

omit [FloatOps F] in
theorem toks_lt {ix : Buf (Elt F) (iLoc d)} (hix : ∀ j, (ix j : BitVec 32).toNat < 100000) (x : S50x128.Idx) :
    (toks d L ix x : BitVec 32).toNat < 100000 := hix _

omit [FloatOps F] in
theorem list_lt {ix : Buf (Elt F) (iLoc d)} (hix : ∀ j, (ix j : BitVec 32).toNat < 100000) (k : Fin k0_t1_loop.trips) :
    ∀ x, ((sChK k).view.read (Elt F) (toks d L ix) x : BitVec 32).toNat < S100000x128.size gathers_S100000x128_S128x128.axis :=
  fun x => toks_lt d L hix _

omit [FloatOps F] in
/-- Trip `k`'s copy, on the worker's row: the chunks before `k` gathered become the chunks before `k + 1`. -/
theorem trip_val {ix : Buf (Elt F) (iLoc d)} (hix : ∀ j, (ix j : BitVec 32).toNat < 100000) (x : Buf (Elt F) (xLoc d)) (f : Buf (Elt F) (oLoc d))
    (fr : Buf (Elt F) (rV.view.loc (thr d L)))
    (k : Fin k0_t1_loop.trips) (hn : S128.numel = S128x128.size gathers_S100000x128_S128x128.axis') :
    ∀ j ∈ oRowSet (wid L), (oChK L k).view.write (Elt F) (upTo (gath ix x) f k.val)
        (ReadAs.same.apply (rV.view.read (Elt F) (rV.view.write (Elt F) fr
          (SparseCore.gatherPayload gathers_S100000x128_S128x128 (xAllK.view.read (Elt F) x)
            (SparseCore.rows ((sChK k).view.read (Elt F) (toks d L ix)) hn (list_lt d L hix k))) Finset.univ))) Finset.univ j
      = upTo (gath ix x) f (k.val + 1) j := by
  intro j hj
  rw [mem_oRowSet] at hj
  rw [show ∀ w : S128x128.Idx → Elt F .f32, ReadAs.same.apply (rV.view.read (Elt F) (rV.view.write (Elt F) fr w Finset.univ)) = w from
    fun w => View.write_whole_univ cc0_scratch1 fr w]
  by_cases hk : (j 1).val = k.val
  · obtain ⟨y, rfl⟩ : ∃ y, (oChK L k).view.emb y = j := by
      have := (mem_oChK L k j).2 ⟨hj, hk⟩
      simpa [View.set] using this
    obtain ⟨e0, e1, e2, e3⟩ := emb_oChK L k y
    rw [View.write_emb_of_mem _ _ (Finset.mem_univ y)]
    simp only [upTo]
    rw [if_pos (show ((oChK L k).view.emb y 1).val < k.val + 1 by rw [e1]; exact Nat.lt_succ_self _)]
    refine (cast_eq _ _).trans ?_
    show x _ = x _
    set j := (oChK L k).view.emb y with hjdef
    refine congrArg x ?_
    funext b
    match b with
    | 0 =>
      refine Fin.ext ((ValueKit.rect_emb_unit_val _ _ _ _ _).trans ((Nat.zero_add _).trans ?_))
      refine (congrArg Fin.val (Shape.Gathers.idx_axis gathers_S100000x128_S128x128 _ y)).trans ?_
      set z : S128.Idx := S128.rowMajor.symm ((y (gathers_S100000x128_S128x128).axis').cast hn.symm) with hz
      have hz0 : (z 0).val = (y 0).val := by
        have h := Shape.rowMajor_val_one (d := ![128]) z
        rw [← h]; show (S128.rowMajor z).val = _
        rw [hz, Equiv.apply_symm_apply]; rfl
      obtain ⟨s0, s1⟩ := emb_sChK k z
      obtain ⟨r0, r1, r2⟩ := emb_iRowK L ((sChK k).view.emb z)
      show (ix ((iRowK L).view.emb ((sChK k).view.emb z)) : BitVec 32).toNat = (ix (tokAt j) : BitVec 32).toNat % 100000
      rw [Nat.mod_eq_of_lt (hix _)]
      refine congrArg (fun i => (ix i : BitVec 32).toNat) ?_
      funext a
      match a with
      | 0 => exact Fin.ext (r0.trans e0.symm)
      | 1 => exact Fin.ext (r1.trans (s0.trans e1.symm))
      | 2 => exact Fin.ext (r2.trans (s1.trans (hz0.trans e2.symm)))
    | 1 =>
      refine Fin.ext ((ValueKit.rect_emb_unit_val _ _ _ _ _).trans ((Nat.zero_add _).trans ?_))
      exact (Shape.Gathers.idx_of_ne gathers_S100000x128_S128x128 _ y 1 (by decide)).trans e3.symm
  · rw [View.write_of_not_mem _ _ _ (by
      show j ∉ (oChK L k).view.set
      rw [mem_oChK]; exact fun h => hk h.2)]
    simp only [upTo]
    by_cases h : (j 1).val < k.val
    · rw [if_pos h, if_pos (by omega)]
    · rw [if_neg h, if_neg (by omega)]

/-! ### The task -/

abbrev cAcell : GSem nD τ sig := (thr d L, .dma cc0_scratch2.sem)
abbrev cBcell : GSem nD τ sig := (thr d L, .dma cc0_scoped0.sem)
abbrev cCcell : GSem nD τ sig := (thr d L, .dma cc0_scoped1.sem)

omit [FloatOps F] in
theorem ownSems0_V :
    (ownSems0 (thr d L) : sProp 𝕄)
      = iprop(semVal (cAcell d L) 0 ∗ semVal (cBcell d L) 0 ∗ semVal (cCcell d L) 0
          ∗ bigSep ((((ownCells (thr d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc0_scoped1.sem : SemLoc sig).isScoped .scVector = true; decide⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The chunk loop before chunk `k`: the worker's tokens in its memory, its share of the table, its row of the result up to
    chunk `k`, the two semaphores at zero. -/
def inv (q : PosShare TreeShare) (ix : Buf (Elt F) (iLoc d)) (x : Buf (Elt F) (xLoc d)) (f : Buf (Elt F) (oLoc d))
    (O : CellTallies nD τ sig (HIx 1)) (W : Waits sig (HIx 1)) (k : ℕ) (_ : Unit) : sProp 𝕄 :=
  iprop(Transfers.MayWaits (thr d L) (default : HIx 1) O ∗ (xV.view.loc (thr d L) ↦{q} x)
    ∗ (sV.view.loc (thr d L) ↦{fullShare} toks d L ix)
    ∗ (∃ fr, rV.view.loc (thr d L) ↦{fullShare} fr)
    ∗ (oLoc d ↦[oRowSet (wid L)]{fullShare} upTo (gath ix x) f k)
    ∗ semVal (cAcell d L) 0 ∗ semVal (cCcell d L) 0
    ∗ ∃ W', ⌜∀ p ∈ W', p ∈ W ∨ p.2 = none⌝ ∗ owes (thr d L) O W')

set_option maxHeartbeats 4000000 in
/-- One trip: the gather of chunk `k`'s rows and its wait, the copy out and its wait. -/
theorem trip (q : PosShare TreeShare) {ix : Buf (Elt F) (iLoc d)} (hix : ∀ j, (ix j : BitVec 32).toNat < 100000) (x : Buf (Elt F) (xLoc d)) (f : Buf (Elt F) (oLoc d))
    (O : CellTallies nD τ sig (HIx 1)) (W : Waits sig (HIx 1)) (k : Fin k0_t1_loop.trips) (u : Unit) :
    inv d L q ix x f O W k.val u
      ⊢ wp frame (wpE (defs₀ (F := F)) 𝒱₀ (thr d L) none) Set.univ
          (k0_t1_body L iV (Memref.isWhole_whole _) xV (Memref.isWhole_whole _) oV (Memref.isWhole_whole _)
            sV (Memref.isWhole_whole _) rV (Memref.isWhole_whole _) cc0_scratch2 cc0_scoped0 cc0_scoped1 k u)
          fun u' => inv (F := F) d L q ix x f O W (k.val + 1) u' := by
  unfold inv k0_t1_body
  iintro ⟨#Hmw, Hx, Hs, ⟨%fr, Hr⟩, Ho, HsA, HsC, ⟨%W', %hW', HO⟩⟩
  have hN : ∑ j, (rV.slice (S128x128.rowRect (gathers_S100000x128_S128x128).axis' j) (S128x128.stride_rowRect (gathers_S100000x128_S128x128).axis' j)).view.dmaCredit
      = rV.view.dmaCredit := by decide +kernel
  iapply (SparseCore.wp_gatherFromWhole countersEmb 𝒱₀ (thr d L) none (src := xAllK) (dst := rV) (offs := sChK k) (hg := gathers_S100000x128_S128x128) (default : HIx 1)
      rV.view.dmaCredit hN (by decide +kernel) (list_lt d L hix k)) $$ [Hx Hr Hs HsA]
  · isplitl [Hx]; · iexact Hx
    isplitl [Hr]; · iexact Hr
    isplitl [Hs]; · iexact Hs
    iexact HsA
  iintro Hfl
  sl_exec
  iapply (Transfers.wp_waitLocalO countersEmb 𝒱₀ (thr d L) none (default : HIx 1) (rfl : rV.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hx, Hs⟩, HsA, HO⟩
  sl_exec
  iapply (Transfers.wp_dmaFromWhole countersEmb 𝒱₀ (thr d L) none (src := rV) (dst := oChK L k) (sm := .dma cc0_scoped1.sem) (Sd := oRowSet (wid L))
      (default : HIx 1) (oChK L k).view.dmaCredit rfl (View.dmaCredit_pos _ (by decide +kernel))
      (fun j hj => mem_oRowSet.2 ((mem_oChK L k j).1 hj).1)) $$ [Hr Ho HsC]
  · isplitl [Hr]; · iexact Hr
    isplitl [Ho]; · iexact Ho
    iexact HsC
  iintro Hfl
  sl_exec
  sl_step
  isplitr; · iexact Hmw
  isplitl [Hx]; · iexact Hx
  isplitl [Hs]; · iexact Hs
  isplitl [Hfl_src]; · iexists _; iexact Hfl_src
  isplitl [Hfl_dst]
  · iapply (Entails.of_eq (pointsTo_congr (ℓ := oLoc d) (q := fullShare) (trip_val d L hix x f fr k rfl)))
    iexact Hfl_dst
  isplitl [HsA]; · iexact HsA
  isplitl [Hfl]; · iexact Hfl
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 4000000 in
/-- The task on vector subcore `(L 0, L 1)` of device `d`: its row of the result ends at the rows its tokens name. -/
theorem tile_body (hF : (K (F := F)).Facts) (q : PosShare TreeShare) {ix : Buf (Elt F) (iLoc d)} (hix : ∀ j, (ix j : BitVec 32).toNat < 100000)
    (x : Buf (Elt F) (xLoc d)) (f : Buf (Elt F) (oLoc d)) (O : CellTallies nD τ sig (HIx 1)) (W : Waits sig (HIx 1)) (hO : ∀ g, O g none = 0) :
    iprop(levAts (K (F := F)).L (K (F := F)).lev ∗ emp
        ∗ (iRowPts d (wid L) ix ∗ xShPts d q x ∗ oRowPts d (wid L) f)
        ∗ scopedBufs (thr d L) ∗ scopedSems0 (thr d L) ∗ owes (thr d L) O W)
      ⊢ wp frame (wpE (defs₀ (F := F)) 𝒱₀ (thr d L) none) Set.univ
          (cc0__emb_body L iV (Memref.isWhole_whole _) xV (Memref.isWhole_whole _) oV (Memref.isWhole_whole _)
            sV (Memref.isWhole_whole _) rV (Memref.isWhole_whole _) cc0_scratch2 cc0_scoped0 cc0_scoped1)
          fun _ => iprop((iRowPts d (wid L) ix ∗ xShPts d q x ∗ oRowPts d (wid L) (gath ix x))
            ∗ scopedBufs (thr d L) ∗ scopedSems0 (thr d L)
            ∗ ∃ W', ⌜∀ p ∈ W', p ∈ W ∨ p.2 = none⌝ ∗ owes (thr d L) O W') := by
  simp only [cc0__emb_body_eq_skeleton]; unfold cc0__emb_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, Hr, Hbufs⟩, ⟨HsA, HsB, HsC, Hsems⟩, HO⟩
  ihave #Hmw := (show (levAts (K (F := F)).L (K (F := F)).lev : sProp 𝕄) ⊢ Transfers.MayWaits (thr d L) (default : HIx 1) O from
    (K (F := F)).mayWaits_none (thr := thr d L) hO) $$ Hlv
  ihave Hi := (Entails.of_eq (show (iLoc d ↦[iRowSet (wid L)]{fullShare} ix : sProp 𝕄) = (iRowK L).view.loc (thr d L) ↦[(iRowK L).view.set]{fullShare} ix by
    rw [set_iRowK])) $$ Hi
  ihave Hs := (Entails.of_eq (show ((thr d L).loc cc0_scratch0 ↦{fullShare} fs : sProp 𝕄) = (sV.view.loc (thr d L) ↦{fullShare} fs : sProp 𝕄) from rfl)) $$ Hs
  sl_exec
  sl_for (inv d L q ix x f O W) $$ [Hx Hs Hr Ho HsA HsC HO]
  case region =>
    intro k u
    exact trip d L q hix x f O W k u
  · unfold inv
    isplitr; · iexact Hmw
    isplitl [Hx]; · iexact Hx
    isplitl [Hs]
    · iapply (Entails.of_eq (congrArg (fun g => (sV.view.loc (thr d L) ↦{fullShare} g : sProp 𝕄)) (View.write_whole_univ cc0_scratch0 fs (toks d L ix))))
      iexact Hs
    isplitl [Hr]; · iexact Hr
    isplitl [Ho]
    · iapply (Entails.of_eq (congrArg (fun g => (oLoc d ↦[oRowSet (wid L)]{fullShare} g : sProp 𝕄)) (show f = upTo (gath ix x) f 0 from
        funext fun j => (if_neg (Nat.not_lt_zero _)).symm)))
      iexact Ho
    isplitl [HsA]; · iexact HsA
    isplitl [HsC]; · iexact HsC
    iexists _; isplitr
    swap; · iexact HO
    ipureintro; intro p hp
    rcases Finset.mem_insert.mp hp with hp | hp; · exact .inr (hp ▸ rfl)
    exact .inl hp
  unfold inv
  iintro %acc ⟨-, Hx, Hs, Hr, Ho, HsA, HsC, HO⟩
  ihave Hi := (Entails.of_eq (show ((iRowK L).view.loc (thr d L) ↦[(iRowK L).view.set]{fullShare} ix : sProp 𝕄) = iLoc d ↦[iRowSet (wid L)]{fullShare} ix by
    rw [set_iRowK])) $$ Hi
  sl_exec
  sl_step
  isplitl [Hi Hx Ho]
  · isplitl [Hi]; · iexact Hi
    isplitl [Hx]; · iexact Hx
    iapply (Entails.of_eq (pointsTo_congr (ℓ := oLoc d) (q := fullShare) (I := oRowSet (wid L)) (f := upTo (gath ix x) f (Scf.trips k0_t1_loop.lb k0_t1_loop.ub k0_t1_loop.st)) (g := gath ix x)
      fun j _ => if_pos (show (j 1).val < k0_t1_loop.trips by rw [trips_eq]; exact (j 1).isLt)))
    iexact Ho
  isplitl [Hs Hr Hbufs]
  · isplitl [Hs]; · iexists _; iexact Hs
    isplitl [Hr]; · iexact Hr
    iexact Hbufs
  isplitl [HsA HsB HsC Hsems]
  · isplitl [HsA]; · iexact HsA
    isplitl [HsB]; · iexact HsB
    isplitl [HsC]; · iexact HsC
    iexact Hsems
  iexact HO

end Tile

end Cert.Proof.KernelIdeal

end
-- ==== Proof.Ideal.Split.lean ====
/-
  The SparseCore call's payloads and how they split: each core takes the sixteen rows `2 * s + c` of the tokens and of the
  result and half of the table's share, each task its row and a sixteenth of the core's share; the results come back at the
  gathered rows. Proved here: the task's obligation (`tileObl`) and the split (`vecSplit`).
-/
module

public import proofs.«01_k».proof.Proof.Ideal.Tile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## Shares of the table; the rows of a core -/

/-- Core `c`'s share of the table, and its task `i`'s. -/
abbrev xqC (c : Fin 2) : PosShare TreeShare := pieceOf fullShare 2 (by decide) c
abbrev xqT (c : Fin 2) (i : Fin 16) : PosShare TreeShare := pieceOf (xqC c) 16 (by decide) i

/-- The rows of core `c`: those its sixteen tasks own. -/
def iCoreSet (c : Fin 2) : Finset S32x50x128.Idx := Finset.univ.biUnion fun i : Fin 16 => iRowSet (2 * i.val + c.val)
def oCoreSet (c : Fin 2) : Finset S32x50x128x128.Idx := Finset.univ.biUnion fun i : Fin 16 => oRowSet (2 * i.val + c.val)

theorem irows_disjoint (c : Fin 2) : ∀ i ∈ (Finset.univ : Finset (Fin 16)), ∀ j ∈ (Finset.univ : Finset (Fin 16)), i ≠ j →
    Disjoint (iRowSet (2 * i.val + c.val)) (iRowSet (2 * j.val + c.val)) :=
  fun i _ j _ h => Finset.disjoint_left.2 fun a ha hb => h (Fin.ext (by rw [mem_iRowSet] at ha hb; omega))
theorem orows_disjoint (c : Fin 2) : ∀ i ∈ (Finset.univ : Finset (Fin 16)), ∀ j ∈ (Finset.univ : Finset (Fin 16)), i ≠ j →
    Disjoint (oRowSet (2 * i.val + c.val)) (oRowSet (2 * j.val + c.val)) :=
  fun i _ j _ h => Finset.disjoint_left.2 fun a ha hb => h (Fin.ext (by rw [mem_oRowSet] at ha hb; omega))

theorem mem_iCoreSet {c : Fin 2} {j : S32x50x128.Idx} : j ∈ iCoreSet c ↔ (j 0).val % 2 = c.val := by
  have h0 : (j 0).val < 32 := (j 0).isLt
  simp only [iCoreSet, Finset.mem_biUnion, Finset.mem_univ, true_and, mem_iRowSet]
  exact ⟨fun ⟨i, h⟩ => by omega, fun h => ⟨⟨(j 0).val / 2, by omega⟩, by show (j 0).val = 2 * ((j 0).val / 2) + c.val; omega⟩⟩
theorem mem_oCoreSet {c : Fin 2} {j : S32x50x128x128.Idx} : j ∈ oCoreSet c ↔ (j 0).val % 2 = c.val := by
  have h0 : (j 0).val < 32 := (j 0).isLt
  simp only [oCoreSet, Finset.mem_biUnion, Finset.mem_univ, true_and, mem_oRowSet]
  exact ⟨fun ⟨i, h⟩ => by omega, fun h => ⟨⟨(j 0).val / 2, by omega⟩, by show (j 0).val = 2 * ((j 0).val / 2) + c.val; omega⟩⟩

theorem icores_disjoint : ∀ c ∈ (Finset.univ : Finset (Fin 2)), ∀ c' ∈ (Finset.univ : Finset (Fin 2)), c ≠ c' → Disjoint (iCoreSet c) (iCoreSet c') :=
  fun c _ c' _ h => Finset.disjoint_left.2 fun a ha hb => h (Fin.ext (by rw [mem_iCoreSet] at ha hb; omega))
theorem ocores_disjoint : ∀ c ∈ (Finset.univ : Finset (Fin 2)), ∀ c' ∈ (Finset.univ : Finset (Fin 2)), c ≠ c' → Disjoint (oCoreSet c) (oCoreSet c') :=
  fun c _ c' _ h => Finset.disjoint_left.2 fun a ha hb => h (Fin.ext (by rw [mem_oCoreSet] at ha hb; omega))
theorem icores_cover : (Finset.univ : Finset (Fin 2)).biUnion iCoreSet = Finset.univ :=
  Finset.eq_univ_of_forall fun j => Finset.mem_biUnion.2 ⟨⟨(j 0).val % 2, Nat.mod_lt _ (by decide)⟩, Finset.mem_univ _, mem_iCoreSet.2 rfl⟩
theorem ocores_cover : (Finset.univ : Finset (Fin 2)).biUnion oCoreSet = Finset.univ :=
  Finset.eq_univ_of_forall fun j => Finset.mem_biUnion.2 ⟨⟨(j 0).val % 2, Nat.mod_lt _ (by decide)⟩, Finset.mem_univ _, mem_oCoreSet.2 rfl⟩

/-! ## What the handshakes carry -/

abbrev iCorePts (d : Dev nD) (c : Fin 2) (ix : Buf (Elt F) (iLoc d)) : sProp 𝕄 := iLoc d ↦[iCoreSet c]{fullShare} ix
abbrev oCorePts (d : Dev nD) (c : Fin 2) (f : Buf (Elt F) (oLoc d)) : sProp 𝕄 := oLoc d ↦[oCoreSet c]{fullShare} f

theorem iCore_rows (d : Dev nD) (c : Fin 2) (f : Buf (Elt F) (iLoc d)) :
    (iCorePts d c f : sProp 𝕄) = bigSep Finset.univ fun i : Fin 16 => iRowPts d (2 * i.val + c.val) f :=
  pointsTo_biUnion Finset.univ (ℓ := iLoc d) (fun i : Fin 16 => iRowSet (2 * i.val + c.val)) (irows_disjoint c)
theorem oCore_rows (d : Dev nD) (c : Fin 2) (f : Buf (Elt F) (oLoc d)) :
    (oCorePts d c f : sProp 𝕄) = bigSep Finset.univ fun i : Fin 16 => oRowPts d (2 * i.val + c.val) f :=
  pointsTo_biUnion Finset.univ (ℓ := oLoc d) (fun i : Fin 16 => oRowSet (2 * i.val + c.val)) (orows_disjoint c)
theorem iPts_cores (d : Dev nD) (f : Buf (Elt F) (iLoc d)) :
    (iLoc d ↦{fullShare} f : sProp 𝕄) = bigSep Finset.univ fun c : Fin 2 => iCorePts d c f := by
  rw [← pointsTo_biUnion Finset.univ (ℓ := iLoc d) iCoreSet icores_disjoint, icores_cover]; try rfl
theorem oPts_cores (d : Dev nD) (f : Buf (Elt F) (oLoc d)) :
    (oLoc d ↦{fullShare} f : sProp 𝕄) = bigSep Finset.univ fun c : Fin 2 => oCorePts d c f := by
  rw [← pointsTo_biUnion Finset.univ (ℓ := oLoc d) oCoreSet ocores_disjoint, ocores_cover]; try rfl
theorem xPts_cores (d : Dev nD) (x : Buf (Elt F) (xLoc d)) :
    (xLoc d ↦{fullShare} x : sProp 𝕄) = bigSep Finset.univ fun c : Fin 2 => xShPts d (xqC c) x :=
  pointsTo_piecesOf Finset.univ x (by decide) fullShare
theorem xCore_tasks (d : Dev nD) (c : Fin 2) (x : Buf (Elt F) (xLoc d)) :
    (xShPts d (xqC c) x : sProp 𝕄) = bigSep Finset.univ fun i : Fin 16 => xShPts d (xqT c i) x :=
  pointsTo_piecesOf Finset.univ x (by decide) (xqC c)

variable (ix : (d : Dev nD) → Buf (Elt F) (iLoc d)) (x : (d : Dev nD) → Buf (Elt F) (xLoc d)) (f : (d : Dev nD) → Buf (Elt F) (oLoc d))

/-- What core `c` takes and brings back, and what its task `i` does. -/
abbrev coreIn (d : Dev nD) (c : Fin 2) : sProp 𝕄 := iprop(iCorePts d c (ix d) ∗ xShPts d (xqC c) (x d) ∗ oCorePts d c (f d))
abbrev coreOut (d : Dev nD) (c : Fin 2) : sProp 𝕄 := iprop(iCorePts d c (ix d) ∗ xShPts d (xqC c) (x d) ∗ oCorePts d c (gath (ix d) (x d)))
abbrev taskIn (d : Dev nD) (c : Fin 2) (i : Fin 16) : sProp 𝕄 :=
  iprop(iRowPts d (2 * i.val + c.val) (ix d) ∗ xShPts d (xqT c i) (x d) ∗ oRowPts d (2 * i.val + c.val) (f d))
abbrev taskOut (d : Dev nD) (c : Fin 2) (i : Fin 16) : sProp 𝕄 :=
  iprop(iRowPts d (2 * i.val + c.val) (ix d) ∗ xShPts d (xqT c i) (x d) ∗ oRowPts d (2 * i.val + c.val) (gath (ix d) (x d)))

def P : (K (F := F)).Pay (nD := nD) (Val := Elt F) (Name := ℕ) (U := UU) where
  st := fun q d c => match q with | 0 => coreIn ix x f d (Fin.cast nCore_zero c)
  dn := fun q d c => match q with | 0 => coreOut ix x d (Fin.cast nCore_zero c)
  go := fun q d c i => match q with | 0 => taskIn ix x f d (Fin.cast nCore_zero c) (Fin.cast nSub_zero i)
  td := fun q d c i => match q with | 0 => taskOut ix x d (Fin.cast nCore_zero c) (Fin.cast nSub_zero i)
  x := fun _ _ => iprop(emp)

instance P_storable : (P (F := F) ix x f).IsStorable where
  st q d c := match q with
    | 0 => (inferInstance : BI.Storable (upEmb : UEmb _ 𝕄) (coreIn ix x f d (Fin.cast nCore_zero c)))
  dn q d c := match q with
    | 0 => (inferInstance : BI.Storable (upEmb : UEmb _ 𝕄) (coreOut ix x d (Fin.cast nCore_zero c)))
  go q d c i := match q with
    | 0 => (inferInstance : BI.Storable (upEmb : UEmb _ 𝕄) (taskIn ix x f d (Fin.cast nCore_zero c) (Fin.cast nSub_zero i)))
  td q d c i := match q with
    | 0 => (inferInstance : BI.Storable (upEmb : UEmb _ 𝕄) (taskOut ix x d (Fin.cast nCore_zero c) (Fin.cast nSub_zero i)))

/-- Every token is a row of the table. -/
def PreOK : Prop := ∀ (d : Dev nD) (j : S32x50x128.Idx), (ix d j : BitVec 32).toNat < 100000

/-! ## The obligation -/

section Obl

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_body (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK ix) : (K (F := F)).TileObl (D (F := F)) 𝒱 (P ix x f) v₀ 0 := by
  intro d c i O W hO _ _
  simp only [show (P ix x f).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (xqT (Fin.cast nCore_zero c) (Fin.cast nSub_zero i)) (hpre d) (x d) (f d) O W hO).trans
    (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

omit [FloatOps F] in
theorem vecSplit : (K (F := F)).VecSplit' (P ix x f) 0 := by
  intro d c
  show coreIn ix x f d (Fin.cast nCore_zero c) ⊢ |={Set.univ}=> iprop(
      (bigSep Finset.univ fun i : Fin ((K (F := F)).nSub 0) => taskIn ix x f d (Fin.cast nCore_zero c) (Fin.cast nSub_zero i))
      ∗ ((bigSep Finset.univ fun i : Fin ((K (F := F)).nSub 0) => taskOut ix x d (Fin.cast nCore_zero c) (Fin.cast nSub_zero i))
          -∗ coreOut ix x d (Fin.cast nCore_zero c)))
  generalize Fin.cast nCore_zero c = c'
  rw [bigSep_tasks (F := F) (fun i => taskIn ix x f d c' i), bigSep_tasks (F := F) (fun i => taskOut ix x d c' i)]
  simp only [bigSep_sep']
  unfold coreIn coreOut
  rw [iCore_rows, xCore_tasks, oCore_rows, oCore_rows]
  iintro H; imodintro
  isplitl [H]; · iexact H
  iintro H
  iexact H

end Obl

end Cert.Proof.KernelIdeal

end
-- ==== Proof.Ideal.Region.lean ====
/-
  The TensorCore call of `main`: one grid point, the whole token array staged in and the whole mask staged out. Proved here:
  its body (`mask_body`), what the mask array holds afterwards (`final_out`), and the call as one step of `main`
  (`wp_region`).
-/
module

public import proofs.«01_k».proof.Proof.Ideal.Split
public import Idealize.ShloMosaic.Lib.VecWindow
public import Idealize.ShloMosaic.Lib.Pipeline.RegionArrays

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The pipeline's rounds among the ghost state. -/
abbrev EP : Emb UP (MT nD τ sig (HIx 1) (Elt F) ℕ UU ℕ) := (Emb.inl : Emb UP (UP × Counters)).trans embR

abbrev adm : (p : Fin 1) → (pcfgs (F := F) p).Adm := fun p => (cfgs p).toPCfg_adm

abbrev aLoc (d : Dev nD) : Loc nD τ sig := (SparseCore.T d).loc main_arg0
abbrev mLoc (d : Dev nD) : Loc nD τ sig := (SparseCore.T d).loc main_v3

variable (A : (d : Dev nD) → Buf (Elt F) (aLoc d)) (M : (d : Dev nD) → Buf (Elt F) (mLoc d))

/-- The two arrays at the call's entry: the tokens and whatever the mask's array holds. -/
def entryA (d : Dev nD) (w : Fin 2) : Buf (Elt F) ((cfg1.win w).arr.view.loc (d.tc : Thread nD τ)) :=
  match w with | 0 => A d | 1 => M d | ⟨_ + 2, h⟩ => absurd h (Nat.not_lt.2 (Nat.le_add_left _ _))

/-- The tokens as staged, and the mask as the body leaves it staged. -/
abbrev stgIn (d : Dev nD) : S1024x200.Idx → Elt F .i32 := ((cfg1.win 0).blk t1_0).view.read (Elt F) (A d)
abbrev stgOut (d : Dev nD) : S1024x200.Idx → Elt F .i8 := k1_pay1 (F := F) (stgIn A d)

/-- The pairs a wait may have recorded by now. -/
def recd (d : Dev nD) : Set (SemLoc sig × HIx 1) := {p | (K (F := F)).lev (SparseCore.T d, p.1) p.2 ≤ 8}

def dats (_ : Fin 1) (d : Dev nD) : Dat τ (Elt F) (HIx 1) ℕ UU ℕ cfg1 d where
  A w := entryA A M d w
  after w _ := match w with | 0 => stgIn A d | 1 => stgOut A d | ⟨_ + 2, h⟩ => absurd h (Nat.not_lt.2 (Nat.le_add_left _ _))
  Φ _ := iprop(emp)
  q _ := fullShare
  owed _ := 0
  recorded _ := recd (F := F) d

theorem before_in (d : Dev nD) (x : (cfg1.win 0).block.Idx → Elt F (cfg1.win 0).elt) :
    (dats A M 0 d).before 0 t1_0 x = stgIn A d := by
  unfold Dat.before; rw [if_pos (by decide)]; rfl

/-- The body: from the tokens staged, the mask staged. -/
theorem mask_body (d : Dev nD) (arg0 : Memref sig .tc .vmem S1024x200 .i32) (h0 : arg0.IsWhole)
    (arg1 : Memref sig .tc .vmem S1024x200 .i8) (h1 : arg1.IsWhole) (f0 : Buf (Elt F) (arg0.view.loc (d.tc : Thread nD τ)))
    (f1 : Buf (Elt F) (arg1.view.loc (d.tc : Thread nD τ))) :
    (iprop((arg0.view.loc (d.tc : Thread nD τ) ↦{fullShare} f0) ∗ (arg1.view.loc (d.tc : Thread nD τ) ↦{fullShare} f1)) : sProp 𝕄)
      ⊢ wp frame (wpE (defs₀ (F := F)) 𝒱₀ (d.tc : Thread nD τ) none) Set.univ (cc1__mask_body (F := F) arg0 h0 arg1 h1) fun _ =>
          iprop((arg0.view.loc (d.tc : Thread nD τ) ↦{fullShare} f0)
            ∗ ∃ g, ⌜arg1.view.read (Elt F) g = k1_pay1 (F := F) (arg0.view.read (Elt F) f0)⌝ ∗ (arg1.view.loc (d.tc : Thread nD τ) ↦{fullShare} g)) := by
  rw [cc1__mask_body_eq_skeleton]; unfold cc1__mask_body_skel
  iintro ⟨H0, H1⟩
  sl_exec
  sl_step
  isplitl [H0]; · iexact H0
  iexists _; isplitr; swap; (· iexact H1)
  ipureintro
  exact (View.read_writes_full (arg1.view) f1 (off := ![0, 0]) inb_S1024x200_S1024x200_0_0 _ []).trans
    (congrArg (k1_pay1 (F := F)) (View.readAt_full (arg0.view) f0 (off := ![0, 0]) inb_S1024x200_S1024x200_0_0))

theorem body_obligation (d : Dev nD) : BodyObligation (dats A M 0 d) (defs₀ (F := F)) 𝒱₀ (none : HIx 1) Set.univ := fun t => by
  obtain rfl := fin_N1 t
  rw [bigSep_W1, bigSep_W1]
  simp only [owns_whole_eq]
  rw [show (dats A M 0 d).Φ t1_0.castSucc = iprop(emp) from rfl, show (dats A M 0 d).Φ t1_0.succ = iprop(emp) from rfl]
  iintro ⟨-, HO, ⟨%d0, %f0, %hf0, H0⟩, ⟨%d1, %f1, %hf1, H1⟩⟩
  rw [before_in] at hf0
  subst hf0
  iapply (wp_wand_r frame _ Set.univ)
  isplitl [H0 H1]
  · iapply (mask_body d (stage1_0 0) (hstage1_0 0) (stage1_1 0) (hstage1_1 0) (stgIn A d) f1)
    isplitl [H0] <;> iassumption
  iintro %_ ⟨H0, %g, %hg, H1⟩
  isplitr; · iempintro
  isplitl [HO]; · iexact HO
  isplitl [H0]
  · iexists _; isplitr; swap; (· iexact H0); ipureintro; rfl
  iexists g; isplitr; swap; (· iexact H1); ipureintro; exact hg

/-! ## The arrays after the call -/

/-- The mask, as the array holds it afterwards. -/
abbrev maskOf (d : Dev nD) : Buf (Elt F) (mLoc d) := k1_pay1 (F := F) (A d)

omit [FloatOps F] in
/-- The one block of a window is its whole array. -/
theorem read_in (f : S1024x200.Idx → Elt F .i32) : (win1_0.blk t1_0).view.read (Elt F) f = f :=
  have hz : (fun a => win1_0.index t1_0 a * main_arg0.ty.shape.size a) = fun _ => 0 := funext fun a => by fin_cases a <;> decide
  Memref.read_access_unit_zero (Elt F) main_arg0 hz (fun a => by rw [congrFun hz a]; simp) f
omit [FloatOps F] in
theorem read_out (f : S1024x200.Idx → Elt F .i8) : (win1_1.blk t1_0).view.read (Elt F) f = f :=
  have hz : (fun a => win1_1.index t1_0 a * main_v3.ty.shape.size a) = fun _ => 0 := funext fun a => by fin_cases a <;> decide
  Memref.read_access_unit_zero (Elt F) main_v3 hz (fun a => by rw [congrFun hz a]; simp) f

omit [FloatOps F] in
theorem cover (i : S1024x200.Idx) : i ∈ ((cfg1.win 1).blk t1_0).view.set := by
  show i ∈ ((View.whole main_v3).slice (win1_1.rect t1_0)).set
  rw [View.set_slice_whole, Rect.mem_set_unit]
  have e : ∀ a, win1_1.index t1_0 a * win1_1.size a = 0 ∧ win1_1.xsize (grid1.coords t1_0) a = S1024x200.size a := by decide +kernel
  intro a
  show win1_1.index t1_0 a * win1_1.size a ≤ (i a : Nat) ∧ (i a : Nat) < win1_1.index t1_0 a * win1_1.size a + win1_1.xsize (grid1.coords t1_0) a
  rw [(e a).1, (e a).2, Nat.zero_add]
  exact ⟨Nat.zero_le _, (i a).isLt⟩

theorem final_in (d : Dev nD) : (dats A M 0 d).arrAt 0 cfg1.N = A d := (dats A M 0 d).arrAt_in 0 rfl _

theorem final_out (d : Dev nD) : (dats A M 0 d).arrAt 1 cfg1.N = maskOf A d := by
  refine (dats A M 0 d).arrAt_eq_of_cover 1 (maskOf A d) (fun t _ => ?_) (fun i => ⟨t1_0, flush1_1 _, cover i⟩)
  obtain rfl := fin_N1 t
  show (cfg1.win 1).cut (grid1.coords t1_0) ((dats A M 0 d).after 1 t1_0) = _
  refine Eq.trans ?_ (read_out (maskOf A d)).symm
  exact congrArg (k1_pay1 (F := F)) (read_in (A d))

/-! ## The call as a step of `main` -/

/-- What the call is entered with, and what it leaves. -/
abbrev owes8 (d : Dev nD) : sProp 𝕄 :=
  iprop(∃ W, ⌜(K (F := F)).WBelow (SparseCore.T d) W 8⌝ ∗ owes (SparseCore.T d) (0 : CellTallies nD τ sig (HIx 1)) W)
abbrev regIn (d : Dev nD) : sProp 𝕄 := iprop((aLoc d ↦{fullShare} A d) ∗ (mLoc d ↦{fullShare} M d) ∗ owes8 (F := F) d)
abbrev regOut (d : Dev nD) : sProp 𝕄 := iprop((aLoc d ↦{fullShare} A d) ∗ (mLoc d ↦{fullShare} maskOf A d) ∗ owes8 (F := F) d)

set_option backward.isDefEq.respectTransparency.types false in
theorem arrays_pts (d : Dev nD) (G : (w : Fin cfg1.W) → Buf (Elt F) ((cfg1.win w).arr.view.loc (d.tc : Thread nD τ))) :
    (dats A M 0 d).arrays G = (iprop((aLoc d ↦{fullShare} G 0) ∗ (mLoc d ↦{fullShare} G 1)) : sProp 𝕄) := by
  rw [Pipeline.arrays_eq (Pipeline.pin (pcfgs (F := F)) adm) (dats A M) 0 d launch1.arr_whole ((dats A M 0 d).share_full fun _ => rfl) G]
  exact bigSep_W1 _

set_option backward.isDefEq.respectTransparency.types false in
def reg : Pipeline.RegionSeg (pcfgs (F := F)) adm (dats A M) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation A M c).loose
  hwaits := Pipeline.hwaits_of_owed_zero _ _ _ _ _ _ 0 fun _ _ => rfl
  pre := regIn A M
  post := regOut A
  X _ := iprop(emp)
  Y _ := iprop(emp)
  Z _ := iprop(emp)
  hentry d := by
    rw [Pipeline.ownSems0_none, Pipeline.prefHeld_of_none _ rfl, arrays_pts]
    iintro ⟨⟨Ha, Hm, %W, %hW, HO⟩, -, -⟩
    imodintro
    isplitl [Ha Hm]
    · isplitl [Ha]; · iexact Ha
      iexact Hm
    isplitr; · iempintro
    isplitl [HO]
    · unfold Dat.owesAt Pipeline.owesWithin Dat.bound
      iexists W; isplitr; · ipureintro; exact fun p hp => Or.inl (hW p hp)
      iexact HO
    isplitr <;> iempintro
  hin d := by
    rw [Pipeline.prefHeld_of_none _ rfl, scopedRest1_eq]
    iintro ⟨-, -, -⟩; iempintro
  hout d := by
    rw [Pipeline.ownSems0_none, scopedRest1_eq]
    iintro -
    isplitr; · iempintro
    isplitr <;> iempintro
  hexit d := by
    rw [arrays_pts, final_in, final_out]
    iintro ⟨⟨Ha, Hm⟩, HO, -, -⟩
    imodintro
    isplitl [Ha]; · iexact Ha
    isplitl [Hm]; · iexact Hm
    unfold Dat.owesAt Pipeline.owesWithin Dat.bound
    icases HO with ⟨%W, %hW, HO⟩; iexists W; isplitr
    · ipureintro
      intro p hp
      rcases hW hp with h | ⟨w, s, h⟩
      · exact h
      · subst h; exact Nat.zero_le _
    iexact HO

/-- What the pipeline's rounds are funded with. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

theorem wp_region [∀ e, Nonempty (Elt F e)] (d : Dev nD) :
    iprop(levAts (K (F := F)).L (K (F := F)).lev ∗ boundary (SparseCore.T d) ∗ regIn A M d ∗ ghost (F := F) d)
      ⊢ wp frame (wpE ((K (F := F)).defs (D (F := F))) 𝒱 (SparseCore.T d) none) Set.univ
          (Prog.lift (.customCall (SparseCore.inner (Pipeline.entry 0)) ())) fun _ => (iprop(boundary (SparseCore.T d) ∗ regOut A d) : sProp 𝕄) := by
  have h := Pipeline.RegionSeg.wp (pcfgs (F := F)) adm (dats A M) (none : HIx 1) cellOf_inj EP defs₀ 𝒱₀
    (K (F := F)).L (K (F := F)).lev (reg A M) d none (fun _ h => nomatch h) (α := PUnit) (.ret)
    (fun _ => (iprop(boundary (SparseCore.T d) ∗ regOut A d) : sProp 𝕄))
  rw [show (reg A M).pre d = regIn A M d from rfl, show (reg A M).post d = regOut A d from rfl] at h
  have h' := (K (F := F)).wp_liftProg (D (F := F)) 𝒱 (SparseCore.T d) Set.univ none
    (.op (.customCall (Pipeline.entry (Λ₀ := Λ₀) (P := Fin 1) (A := fun p => (pcfgs (F := F) p).Adm) 0) ()) .ret)
    (fun _ => (iprop(boundary (SparseCore.T d) ∗ regOut A d) : sProp 𝕄))
  iintro ⟨HL, Hb, HR, Hg, Ht⟩
  iapply h'
  iapply h
  isplitr
  · iintro H; sl_step; iexact H
  isplitl [Hb]; · iexact Hb
  isplitl [HR]; · iexact HR
  isplitl [HL]; · iexact HL
  isplitl [Hg] <;> iassumption

end Cert.Proof.KernelIdeal

end
-- ==== Proof.Ideal.Main.lean ====
/-
  `main` on a TensorCore: the tokens reshaped to 32 rows of 50 chunks of 128, the SparseCore call, its result reshaped, the
  mask's call, and the mask compared with zero. Proved here: the program's run from any memory whose tokens are rows of the
  table (`run_main`), ending with both results named, the arguments unchanged and every semaphore at zero.
-/
module

public import proofs.«01_k».proof.Proof.Ideal.Region

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values -/

/-- The tokens in the SparseCore call's shape, the rows it gathers, the two results. -/
def ixOf (d : Dev nD) : Buf (Elt F) (iLoc d) := shapeCast S32x50x128 (m (aLoc d)) shapeCasts_S1024x200_S32x50x128
def rowsOf (d : Dev nD) : Buf (Elt F) (oLoc d) := gath (ixOf m d) (m (xLoc d))
abbrev r0Loc (d : Dev nD) : Loc nD τ sig := (SparseCore.T d).loc main_v2
abbrev r1Loc (d : Dev nD) : Loc nD τ sig := (SparseCore.T d).loc main_v6
def res0 (d : Dev nD) : Buf (Elt F) (r0Loc d) := shapeCast S1024x200x128 (rowsOf m d) shapeCasts_S32x50x128x128_S1024x200x128
def maskIn (d : Dev nD) : Buf (Elt F) (mLoc d) := maskOf (F := F) (fun d => m (aLoc d)) d
def res1 (d : Dev nD) : Buf (Elt F) (r1Loc d) :=
  cmpi .ne (maskIn m d) (broadcastInDim S1024x200 ![] bcast_S_S1024x200 (constantI S_ 8 0#8))

abbrev PayOf : (K (F := F)).Pay (nD := nD) (Val := Elt F) (Name := ℕ) (U := UU) :=
  P (ixOf m) (fun d => m (xLoc d)) (fun d => m (oLoc d))

/-! ## The launch element of the certificate's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (PayOf m).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (PayOf (F := F) m).x q thr) = bigSep Finset.univ fun _ => iprop(emp) from
    bigSep_congr fun _ _ => bigSep_univ_of_subsingleton (0 : Fin 1)]
  have h : (bigSep Finset.univ fun _ : Thread nD τ => iprop(emp)) = (iprop(emp) : sProp 𝕄) := bigSep_emp_const _
  rw [h]
  iempintro

/-! ## The arrays of `main` -/

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r0' : DevRef τ sig := Proc.devRef .tc (main_v2 : Ref sig .tc)
abbrev k' : DevRef τ sig := Proc.devRef .tc (main_v3 : Ref sig .tc)
abbrev c' : DevRef τ sig := Proc.devRef .tc (main_c : Ref sig .tc)
abbrev b' : DevRef τ sig := Proc.devRef .tc (main_v4 : Ref sig .tc)
abbrev n' : DevRef τ sig := Proc.devRef .tc (main_v5 : Ref sig .tc)
abbrev r1' : DevRef τ sig := Proc.devRef .tc (main_v6 : Ref sig .tc)

abbrev opI : HloOp τ sig (Elt F) := StableHlo.reshape main_arg0 main_v0 (rfl : (.i32 : EltTy) = .i32) shapeCasts_S1024x200_S32x50x128
abbrev opO : HloOp τ sig (Elt F) := StableHlo.reshape main_v1 main_v2 (rfl : (.f32 : EltTy) = .f32) shapeCasts_S32x50x128x128_S1024x200x128
abbrev opC : HloOp τ sig (Elt F) := StableHlo.nullary main_c (constantI S_ 8 0#8)
abbrev opB : HloOp τ sig (Elt F) := StableHlo.unary main_c main_v4 (broadcastInDim S1024x200 ![] bcast_S_S1024x200)
abbrev opN : HloOp τ sig (Elt F) := StableHlo.binary main_v3 main_v4 main_v5 (cmpi .ne)
abbrev opR : HloOp τ sig (Elt F) := StableHlo.unary main_v5 main_v6 id

/-- The ten arrays, all unscoped. -/
abbrev S10 : Finset (DevRef τ sig) := {a', x', i', o', r0', k', c', b', n', r1'}

omit [FloatOps F] in
theorem held_S10 (d : Dev nD) (W : Valuation τ sig (Elt F)) :
    (held (T d) S10 W : sProp 𝕄)
      = iprop((aLoc d ↦{fullShare} W a') ∗ (xLoc d ↦{fullShare} W x') ∗ (iLoc d ↦{fullShare} W i') ∗ (oLoc d ↦{fullShare} W o')
          ∗ (r0Loc d ↦{fullShare} W r0') ∗ (mLoc d ↦{fullShare} W k') ∗ ((SparseCore.T d).loc main_c ↦{fullShare} W c')
          ∗ ((SparseCore.T d).loc main_v4 ↦{fullShare} W b') ∗ ((SparseCore.T d).loc main_v5 ↦{fullShare} W n') ∗ r1Loc d ↦{fullShare} W r1') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the valuations after the tokens' reshape, the SparseCore call, its result's reshape, the mask's
    call, and each of the last four operations. -/
def V0 (d : Dev nD) : Valuation τ sig (Elt F) := fun b => m (d, b)
def V1 (d : Dev nD) : Valuation τ sig (Elt F) := (opI (F := F)).result (V0 m d)
def V2 (d : Dev nD) : Valuation τ sig (Elt F) := Function.update (V1 m d) o' (rowsOf m d)
def V3 (d : Dev nD) : Valuation τ sig (Elt F) := (opO (F := F)).result (V2 m d)
def V4 (d : Dev nD) : Valuation τ sig (Elt F) := Function.update (V3 m d) k' (maskIn m d)
def V5 (d : Dev nD) : Valuation τ sig (Elt F) := (opC (F := F)).result (V4 m d)
def V6 (d : Dev nD) : Valuation τ sig (Elt F) := (opB (F := F)).result (V5 m d)
def V7 (d : Dev nD) : Valuation τ sig (Elt F) := (opN (F := F)).result (V6 m d)
def V8 (d : Dev nD) : Valuation τ sig (Elt F) := (opR (F := F)).result (V7 m d)

omit [FloatOps F] in
theorem unscoped_held (d : Dev nD) : (unscopedBufs d (fun b => m ((SparseCore.T d).loc b)) : sProp 𝕄) = held (T d) S10 (V0 m d) := by
  unfold unscopedBufs
  rw [show (Finset.univ.filter fun b : Ref sig .tc => ¬ b.isScoped)
    = {main_arg0, main_arg1, main_v0, main_v1, main_v2, main_v3, main_c, main_v4, main_v5, main_v6} by decide, held_S10,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem V1_ne (d : Dev nD) {b : Ref sig .tc} (h : b ≠ main_v0) : V1 m d (Proc.devRef .tc b) = m ((SparseCore.T d).loc b) :=
  StableHlo.reshape_result_ne (h := h) ..
theorem V1_i (d : Dev nD) : V1 m d i' = ixOf m d := StableHlo.reshape_result _ _ _ _ _ _ _
theorem V2_ne (d : Dev nD) {b : Ref sig .tc} (h : b ≠ main_v1) : V2 m d (Proc.devRef .tc b) = V1 m d (Proc.devRef .tc b) :=
  Function.update_of_ne (fun e => h (Proc.devRef_injective _ e)) _ _
theorem V2_o (d : Dev nD) : V2 m d o' = rowsOf m d := Function.update_self _ _ _
theorem V3_ne (d : Dev nD) {b : Ref sig .tc} (h : b ≠ main_v2) : V3 m d (Proc.devRef .tc b) = V2 m d (Proc.devRef .tc b) :=
  StableHlo.reshape_result_ne (h := h) ..
theorem V3_r (d : Dev nD) : V3 m d r0' = res0 m d :=
  (StableHlo.reshape_result _ _ _ _ _ _ _).trans (by rw [V2_o]; rfl)
theorem V4_ne (d : Dev nD) {b : Ref sig .tc} (h : b ≠ main_v3) : V4 m d (Proc.devRef .tc b) = V3 m d (Proc.devRef .tc b) :=
  Function.update_of_ne (fun e => h (Proc.devRef_injective _ e)) _ _
theorem V4_k (d : Dev nD) : V4 m d k' = maskIn m d := Function.update_self _ _ _
theorem V5_ne (d : Dev nD) {b : Ref sig .tc} (h : b ≠ main_c) : V5 m d (Proc.devRef .tc b) = V4 m d (Proc.devRef .tc b) :=
  StableHlo.nullary_result_ne (h := h) ..
theorem V5_c (d : Dev nD) : V5 m d c' = constantI S_ 8 0#8 := StableHlo.nullary_result _ _ _ _
theorem V6_ne (d : Dev nD) {b : Ref sig .tc} (h : b ≠ main_v4) : V6 m d (Proc.devRef .tc b) = V5 m d (Proc.devRef .tc b) :=
  StableHlo.unary_result_ne (h := h) ..
theorem V6_b (d : Dev nD) : V6 m d b' = broadcastInDim S1024x200 ![] bcast_S_S1024x200 (constantI S_ 8 0#8) :=
  (StableHlo.unary_result _ _ _ _ _ _).trans (by rw [V5_c])
theorem V7_ne (d : Dev nD) {b : Ref sig .tc} (h : b ≠ main_v5) : V7 m d (Proc.devRef .tc b) = V6 m d (Proc.devRef .tc b) :=
  StableHlo.binary_result_ne (h := h) ..
theorem V7_n (d : Dev nD) : V7 m d n' = res1 m d :=
  (StableHlo.binary_result _ _ _ _ _ _ _ _).trans
    (by rw [V6_b, V6_ne m d (b := main_v3) (by decide), V5_ne m d (b := main_v3) (by decide), V4_k]; rfl)
theorem V8_ne (d : Dev nD) {b : Ref sig .tc} (h : b ≠ main_v6) : V8 m d (Proc.devRef .tc b) = V7 m d (Proc.devRef .tc b) :=
  StableHlo.unary_result_ne (h := h) ..
theorem V8_r1 (d : Dev nD) : V8 m d r1' = res1 m d := (StableHlo.unary_result _ _ _ _ _ _).trans (by rw [V7_n]; rfl)

theorem V3_a (d : Dev nD) : V3 m d a' = m (aLoc d) := by
  rw [V3_ne m d (b := main_arg0) (by decide), V2_ne m d (b := main_arg0) (by decide), V1_ne m d (b := main_arg0) (by decide)]
theorem V8_V3 (d : Dev nD) {b : Ref sig .tc} (h1 : b ≠ main_v6) (h2 : b ≠ main_v5) (h3 : b ≠ main_v4) (h4 : b ≠ main_c) (h5 : b ≠ main_v3) :
    V8 m d (Proc.devRef .tc b) = V3 m d (Proc.devRef .tc b) := by
  rw [V8_ne m d h1, V7_ne m d h2, V6_ne m d h3, V5_ne m d h4, V4_ne m d h5]
theorem V8_a (d : Dev nD) : V8 m d a' = m (aLoc d) := by
  rw [V8_V3 m d (b := main_arg0) (by decide) (by decide) (by decide) (by decide) (by decide), V3_a]
theorem V8_x (d : Dev nD) : V8 m d x' = m (xLoc d) := by
  rw [V8_V3 m d (b := main_arg1) (by decide) (by decide) (by decide) (by decide) (by decide), V3_ne m d (b := main_arg1) (by decide),
    V2_ne m d (b := main_arg1) (by decide), V1_ne m d (b := main_arg1) (by decide)]
theorem V8_r0 (d : Dev nD) : V8 m d r0' = res0 m d := by
  rw [V8_V3 m d (b := main_v2) (by decide) (by decide) (by decide) (by decide) (by decide), V3_r]

theorem held_V1 (d : Dev nD) :
    (held (T d) S10 (V1 m d) : sProp 𝕄)
      = iprop((aLoc d ↦{fullShare} V1 m d a') ∗ (xLoc d ↦{fullShare} m (xLoc d)) ∗ (iLoc d ↦{fullShare} ixOf m d) ∗ (oLoc d ↦{fullShare} m (oLoc d))
          ∗ (r0Loc d ↦{fullShare} V1 m d r0') ∗ (mLoc d ↦{fullShare} V1 m d k') ∗ ((SparseCore.T d).loc main_c ↦{fullShare} V1 m d c')
          ∗ ((SparseCore.T d).loc main_v4 ↦{fullShare} V1 m d b') ∗ ((SparseCore.T d).loc main_v5 ↦{fullShare} V1 m d n') ∗ r1Loc d ↦{fullShare} V1 m d r1') := by
  rw [held_S10, V1_i, V1_ne m d (b := main_arg1) (by decide), V1_ne m d (b := main_v1) (by decide)]
theorem held_V3 (d : Dev nD) :
    (held (T d) S10 (V3 m d) : sProp 𝕄)
      = iprop((aLoc d ↦{fullShare} m (aLoc d)) ∗ (xLoc d ↦{fullShare} V3 m d x') ∗ (iLoc d ↦{fullShare} V3 m d i') ∗ (oLoc d ↦{fullShare} V3 m d o')
          ∗ (r0Loc d ↦{fullShare} V3 m d r0') ∗ (mLoc d ↦{fullShare} V3 m d k') ∗ ((SparseCore.T d).loc main_c ↦{fullShare} V3 m d c')
          ∗ ((SparseCore.T d).loc main_v4 ↦{fullShare} V3 m d b') ∗ ((SparseCore.T d).loc main_v5 ↦{fullShare} V3 m d n') ∗ r1Loc d ↦{fullShare} V3 m d r1') := by
  rw [held_S10, V3_a]
theorem held_V8 (d : Dev nD) :
    (held (T d) S10 (V8 m d) : sProp 𝕄)
      = iprop((aLoc d ↦{fullShare} m (aLoc d)) ∗ (xLoc d ↦{fullShare} m (xLoc d)) ∗ (iLoc d ↦{fullShare} V8 m d i') ∗ (oLoc d ↦{fullShare} V8 m d o')
          ∗ (r0Loc d ↦{fullShare} res0 m d) ∗ (mLoc d ↦{fullShare} V8 m d k') ∗ ((SparseCore.T d).loc main_c ↦{fullShare} V8 m d c')
          ∗ ((SparseCore.T d).loc main_v4 ↦{fullShare} V8 m d b') ∗ ((SparseCore.T d).loc main_v5 ↦{fullShare} V8 m d n') ∗ r1Loc d ↦{fullShare} res1 m d) := by
  rw [held_S10, V8_r1, V8_a, V8_x, V8_r0]

/-- The TensorCore's handshake state after the one call: it owes nothing more. -/
theorem tcSt_one (d : Dev nD) : ∃ R : sProp 𝕄, (K (F := F)).tcSt EH d 1 = iprop(owes8 (F := F) d ∗ R) := by
  unfold SparseCore.Cfg.tcSt
  rw [(K (F := F)).Otc_end d le_rfl]
  exact ⟨_, rfl⟩

/-! ## The run -/

/-- What `main` leaves: the arguments as they came, and the two results. -/
abbrev FIN (d : Dev nD) : sProp 𝕄 :=
  iprop((aLoc d ↦{fullShare} m (aLoc d)) ∗ (xLoc d ↦{fullShare} m (xLoc d)) ∗ (r0Loc d ↦{fullShare} res0 m d) ∗ r1Loc d ↦{fullShare} res1 m d)

theorem st0_eq (d : Dev nD) :
    (bigSep Finset.univ fun c : Fin ((K (F := F)).nCore 0) => (PayOf m).st 0 d c)
      = iprop((iLoc d ↦{fullShare} ixOf m d) ∗ (xLoc d ↦{fullShare} m (xLoc d)) ∗ oLoc d ↦{fullShare} m (oLoc d)) := by
  rw [show (bigSep Finset.univ fun c : Fin ((K (F := F)).nCore 0) => (PayOf m).st 0 d c)
      = bigSep Finset.univ fun c => coreIn (ixOf m) (fun d => m (xLoc d)) (fun d => m (oLoc d)) d c from
    bigSep_cores fun c => coreIn (ixOf m) (fun d => m (xLoc d)) (fun d => m (oLoc d)) d c]
  unfold coreIn
  rw [bigSep_sep', bigSep_sep', ← iPts_cores, ← xPts_cores, ← oPts_cores]

theorem dn0_eq (d : Dev nD) :
    (bigSep Finset.univ fun c : Fin ((K (F := F)).nCore 0) => (PayOf m).dn 0 d c)
      = iprop((iLoc d ↦{fullShare} ixOf m d) ∗ (xLoc d ↦{fullShare} m (xLoc d)) ∗ oLoc d ↦{fullShare} rowsOf m d) := by
  rw [show (bigSep Finset.univ fun c : Fin ((K (F := F)).nCore 0) => (PayOf m).dn 0 d c)
      = bigSep Finset.univ fun c => coreOut (ixOf m) (fun d => m (xLoc d)) d c from
    bigSep_cores fun c => coreOut (ixOf m) (fun d => m (xLoc d)) d c]
  unfold coreOut
  rw [bigSep_sep', bigSep_sep', ← iPts_cores, ← xPts_cores, ← oPts_cores]
  rfl

theorem hmain [∀ e, Nonempty (Elt F e)] (κ : GSem nD τ sig → ℕ) (d : Dev nD) :
    iprop((K (F := F)).ctx EH (PayOf m) κ ∗ (K (F := F)).tcSt EH d 0 ∗ (K (F := F)).tcRes m ρ d ∗ ghost (F := F) d)
      ⊢ wp frame (wpE ((K (F := F)).defs (D (F := F))) 𝒱 (SparseCore.T d) none) Set.univ (main (F := F) d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := opI (F := F)) (S := S10)
    (show ({a', i'} : Finset _) ⊆ S10 by decide) (V := V0 m d)) $$ [Hb Hheld]
  · isplitl [Hb] <;> iassumption
  iintro ⟨Hb, Hheld⟩; rw [wp_ret]; imodintro
  -- the SparseCore call
  ihave Hheld := (show (held (T d) S10 ((opI (F := F)).result (V0 m d)) : sProp 𝕄) ⊢ _ from Entails.of_eq (held_V1 m d)) $$ Hheld
  icases Hheld with ⟨HA, HX, HI, HO, HR0, HK, HC, HB, HN, HR1⟩
  iapply ((K (F := F)).wp_run (D (F := F)) 𝒱 (EH := EH) (P := PayOf m) κ d 0) $$ [Hst HA HX HI HO HR0 HK HC HB HN HR1 Hb HG Hts]
  isplitr
  · iexact Hctx
  isplitl [Hst]
  · iexact Hst
  isplitl [HI HX HO]
  · rw [st0_eq]
    isplitl [HI]; · iexact HI
    isplitl [HX]; · iexact HX
    iexact HO
  iintro ⟨Hst, Hdn⟩
  ihave Hdn := (Entails.of_eq (dn0_eq m d)) $$ Hdn
  icases Hdn with ⟨HI, HX, HO⟩
  ihave Hheld := (show _ ⊢ (held (T d) S10 (V2 m d) : sProp 𝕄) from Entails.of_eq (held_S10 d (V2 m d)).symm) $$ [HA HX HI HO HR0 HK HC HB HN HR1]
  · rw [V2_o, V2_ne m d (b := main_arg0) (by decide), V2_ne m d (b := main_arg1) (by decide), V2_ne m d (b := main_v0) (by decide),
      V2_ne m d (b := main_v2) (by decide), V2_ne m d (b := main_v3) (by decide), V2_ne m d (b := main_c) (by decide),
      V2_ne m d (b := main_v4) (by decide), V2_ne m d (b := main_v5) (by decide), V2_ne m d (b := main_v6) (by decide),
      V1_i, V1_ne m d (b := main_arg1) (by decide)]
    iframe
  iapply (wp_hlo_within 𝒱 (SparseCore.T d) none Set.univ (op := opO (F := F)) (S := S10)
    (show ({o', r0'} : Finset _) ⊆ S10 by decide) (V := V2 m d)) $$ [Hb Hheld]
  · isplitl [Hb] <;> iassumption
  iintro ⟨Hb, Hheld⟩; rw [wp_ret]; imodintro
  -- the mask's call
  ihave Hheld := (show (held (T d) S10 ((opO (F := F)).result (V2 m d)) : sProp 𝕄) ⊢ _ from Entails.of_eq (held_V3 m d)) $$ Hheld
  icases Hheld with ⟨HA, HX, HI, HO, HR0, HK, HC, HB, HN, HR1⟩
  obtain ⟨R, hR⟩ := tcSt_one (F := F) d
  ihave Hst := (show (K (F := F)).tcSt EH d ((0 : Fin 1).val + 1) ⊢ iprop(owes8 (F := F) d ∗ R) from Entails.of_eq hR) $$ Hst
  icases Hst with ⟨HW, Hst⟩
  have hreg := wp_region (F := F) (fun d => m (aLoc d)) (fun d => V3 m d k') d
  iapply wp_wand_r
  isplitl [Hb HA HK HW HG]
  · iapply hreg
    isplitr; · iapply (SparseCore.Cfg.ctx_levAts κ) $$ Hctx
    isplitl [Hb]; · iexact Hb
    isplitr [HG]
    · unfold regIn
      isplitl [HA]; · iexact HA
      isplitl [HK]; · iexact HK
      iexact HW
    iexact HG
  unfold regOut
  iintro %_ ⟨Hb, HA, HK, HW⟩
  ihave Hheld := (show _ ⊢ (held (T d) S10 (V4 m d) : sProp 𝕄) from Entails.of_eq (held_S10 d (V4 m d)).symm) $$ [HA HX HI HO HR0 HK HC HB HN HR1]
  · rw [V4_k, V4_ne m d (b := main_arg0) (by decide), V4_ne m d (b := main_arg1) (by decide), V4_ne m d (b := main_v0) (by decide),
      V4_ne m d (b := main_v1) (by decide), V4_ne m d (b := main_v2) (by decide), V4_ne m d (b := main_c) (by decide),
      V4_ne m d (b := main_v4) (by decide), V4_ne m d (b := main_v5) (by decide), V4_ne m d (b := main_v6) (by decide),
      V3_a]
    iframe
    iexact HK
  -- the mask compared with zero
  iapply (wp_hlo_within 𝒱 (SparseCore.T d) none Set.univ (op := opC (F := F)) (S := S10)
    (show ({c'} : Finset _) ⊆ S10 by decide) (V := V4 m d)) $$ [Hb Hheld]
  · isplitl [Hb]; · iexact Hb
    iexact Hheld
  iintro ⟨Hb, Hheld⟩; rw [wp_ret]; imodintro
  iapply (wp_hlo_within 𝒱 (SparseCore.T d) none Set.univ (op := opB (F := F)) (S := S10)
    (show ({c', b'} : Finset _) ⊆ S10 by decide) (V := V5 m d)) $$ [Hb Hheld]
  · isplitl [Hb]; · iexact Hb
    iexact Hheld
  iintro ⟨Hb, Hheld⟩; rw [wp_ret]; imodintro
  iapply (wp_hlo_within 𝒱 (SparseCore.T d) none Set.univ (op := opN (F := F)) (S := S10)
    (show ({k', b', n'} : Finset _) ⊆ S10 by decide) (V := V6 m d)) $$ [Hb Hheld]
  · isplitl [Hb]; · iexact Hb
    iexact Hheld
  iintro ⟨Hb, Hheld⟩; rw [wp_ret]; imodintro
  iapply (wp_hlo_within 𝒱 (SparseCore.T d) none Set.univ (op := opR (F := F)) (S := S10)
    (show ({n', r1'} : Finset _) ⊆ S10 by decide) (V := V7 m d)) $$ [Hb Hheld]
  · isplitl [Hb]; · iexact Hb
    iexact Hheld
  iintro ⟨Hb, Hheld⟩; rw [wp_ret]; imodintro
  ihave Hheld := (show (held (T d) S10 ((opR (F := F)).result (V7 m d)) : sProp 𝕄) ⊢ _ from Entails.of_eq (held_V8 m d)) $$ Hheld
  icases Hheld with ⟨HA, HX, -, -, HR0, -, -, -, -, HR1⟩
  imodintro
  isplitl [HW Hst]
  · iapply (show iprop(owes8 (F := F) d ∗ R) ⊢ (K (F := F)).tcSt EH d 1 from Entails.of_eq hR.symm)
    isplitl [HW]; · iexact HW
    iexact Hst
  isplitr [Hb Hts]
  · isplitl [HA]; · iexact HA
    isplitl [HX]; · iexact HX
    isplitl [HR0]; · iexact HR0
    iexact HR1
  isplitl [Hb] <;> iassumption

def fq (d : Dev nD) (s' : Phys nD τ sig (Elt F)) : Prop :=
  s'.mem.mem (aLoc d) = m (aLoc d) ∧ s'.mem.mem (xLoc d) = m (xLoc d) ∧ s'.mem.mem (r0Loc d) = res0 m d ∧ s'.mem.mem (r1Loc d) = res1 m d

set_option maxRecDepth 16384 in
theorem hfin (d : Dev nD) (s' : Phys nD τ sig (Elt F)) : iprop(FIN m d ∗ SI s') ⊢ (⌜fq m d s'⌝ : sProp 𝕄) := by
  iintro ⟨⟨HA, HX, H0, H1⟩, HSI⟩
  ihave H := (persistent_entails_right (SI_pointsTo_agree (st := s') (ℓ := aLoc d) (I := Finset.univ) (q := fullShare) (f := m (aLoc d)))) $$ [HSI HA]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI HX]
  · isplitl [HSI] <;> iassumption
  icases H with ⟨%h2, HSI, -⟩
  ihave H := (persistent_entails_right (SI_pointsTo_agree (st := s') (ℓ := r0Loc d) (I := Finset.univ) (q := fullShare) (f := res0 m d))) $$ [HSI H0]
  · isplitl [HSI] <;> iassumption
  icases H with ⟨%h3, HSI, -⟩
  ihave H := (SI_pointsTo_agree (st := s') (ℓ := r1Loc d) (I := Finset.univ) (q := fullShare) (f := res1 m d)) $$ [HSI H1]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-- The end of a run: on every device the arguments unchanged and the two results; every semaphore zero. -/
def QC : PUnit × MemSt nD τ sig (Elt F) → Prop := fun r =>
  (∀ c : Dev nD, r.2.mem (aLoc c) = m (aLoc c) ∧ r.2.mem (xLoc c) = m (xLoc c) ∧ r.2.mem (r0Loc c) = res0 m c ∧ r.2.mem (r1Loc c) = res1 m c)
    ∧ r.2.sem = fun _ => 0

/-- Every token is a row of the table. -/
def TokOK : Prop := ∀ d i, (m (aLoc d) i : BitVec 32).toNat < 100000

theorem run_main [∀ e, Nonempty (Elt F e)] (hpre : TokOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PayOf m) (A := ∅) facts v₀
    (fun q hq => match q with | 0 => nomatch hq)
    (fun q _ => match q with | 0 => tileObl _ _ _ facts fun d _ => hpre d _)
    (fun q _ => match q with | 0 => SparseCore.Cfg.VecSplit.of_plain (vecSplit _ _ _))
    m ρ main (fun d => ghost (F := F) d) (FIN m) (u₀ (F := F)) (sep_elim_left.trans (hu₀ m)) (hmain m ρ) (fq m) (hfin m) (QC m) (fun _ h hz => ⟨h, hz⟩)

end Cert.Proof.KernelIdeal

end
-- ==== Proof.Values.lean ====
/-
  The values, with no machine in them: the precondition's word as a bound on every token; the first result, the rows the
  tokens name gathered chunk by chunk and reshaped, as the reference's `take`; the second, the mask widened to bytes and
  compared with zero, as the reference's compare.
-/
module

public import proofs.«01_k».proof.Proof.Ideal.Main
public import proofs.«01_k».proof.Proof.Gen.ReferenceIdeal.Run
public import proofs.«01_k».proof.Proof.Gen.Pre_in_vocab
public import Idealize.ShloMosaic.Lib.ReduceAll
public import Idealize.ShloMosaic.Lib.ValueIdxCore
public import Idealize.ShloMosaic.Lib.Pipeline.Value

@[expose] public section

noncomputable section

namespace Cert.Proof.Values

open Idealize.ShloMosaic Idealize.ShloMosaic.ValueIdx
open Cert.KernelIdeal (S1024x200 S100000x128 S32x50x128 S32x50x128x128 S1024x200x128 S_)

/-! ## The precondition -/

/-- A word at least 0 and below 100000, read signed, is below 100000 as a natural number. -/
theorem word_lt (v : BitVec 32) (e : IntOp.andi (IntOp.cmpi .sge v 0#32) (IntOp.cmpi .slt v 100000#32) = 1#1) : v.toNat < 100000 := by
  obtain ⟨e0, e1⟩ := IntOp.andi_eq_one.1 e
  have h0 : (0 : ℤ) ≤ v.toInt := IntOp.cmpi_sge.1 e0
  have h1 : v.toInt < 100000 := IntOp.cmpi_slt.1 e1
  have hv := v.isLt
  rw [BitVec.toInt_eq_toNat_cond] at h0 h1
  split at h0 <;> split at h1 <;> omega

/-- A word below 100000 reads the same signed. -/
theorem toInt_of_lt {v : BitVec 32} (hv : v.toNat < 100000) : v.toInt = v.toNat := by
  rw [BitVec.toInt_eq_toNat_cond, if_pos (by omega)]

/-- Under the precondition every token is a row of the table. -/
theorem tok_lt {F : FTy → Type} [FloatOps F] [Cert.Pre_in_vocab.Facts] (a : IVec S1024x200 32) (x : FVec F S100000x128 .f32)
    (h : Cert.Pre_in_vocab.fn (F := F) a x = fun _ => 1#1) (i : S1024x200.Idx) : (a i).toNat < 100000 := by
  have e := congrFun h (fun z => z.elim0)
  haveI : Subsingleton Cert.Pre_in_vocab.S_.Idx := ⟨fun p q => funext fun z => z.elim0⟩
  unfold Cert.Pre_in_vocab.fn at e
  exact word_lt _ (Host.reduce_andi_all _ _ _ _ _ e i)

/-- A word below 100000 is its own clamp to the table's rows. -/
theorem clamp_eq (v : BitVec 32) (hv : v.toNat < 100000) : min v.toInt.toNat 99999 = v.toNat % 100000 := by
  rw [toInt_of_lt hv, Int.toNat_natCast, Nat.mod_eq_of_lt hv]
  omega

/-- A non-negative word is not wrapped round. -/
theorem wrap_eq (a z s : S1024x200.Idx → BitVec 32) (ha : ∀ i, (a i).toNat < 100000) (hz : ∀ i, z i = 0#32) :
    select (cmpi .slt a z) s a = a := by
  funext i
  have hv := ha i
  have e : ¬ IntOp.cmpi .slt (a i) (z i) = 1#1 := by
    rw [IntOp.cmpi_slt, hz, toInt_of_lt hv]
    exact not_lt.2 (Int.natCast_nonneg _)
  exact if_neg e

/-! ## The second result -/

theorem bit_ne_zero (b : BitVec 1) : IntOp.cmpi .ne (b.setWidth 8) 0#8 = b := by revert b; decide

/-! ## The first result -/

section Gather
variable {α : Type} [Cert.ReferenceIdeal.Facts]
open Cert.ReferenceIdeal (gather_S100000x128_S1024x200x1_S1024x200x128_2_0_n_n_0_2_1128 S1024x200x1)

/-- The reference's gather: whole rows of the table, one per start index. -/
abbrev gd := gather_S100000x128_S1024x200x1_S1024x200x128_2_0_n_n_0_2_1128

/-- The start index of result index `(b, s, l)`: `[b, s, 0]`. -/
abbrev startIdx (y : S1024x200x128.Idx) : S1024x200x1.Idx := ix3 (n0 := 1024) (n1 := 200) (n2 := 1) (y 0) (y 1) 0

/-- Along the rows: the start index, signed and clamped; a result index adds nothing. -/
theorem start_row (idx : IVec S1024x200x1 32) (y : S1024x200x128.Idx) :
    gd.start y idx 0 = min (idx (startIdx y)).toInt.toNat 99999 := by
  have h0 : (0 : Fin 2) ∈ gd.startIndexMap := List.mem_singleton.mpr rfl
  have e : gd.siIdx y ⟨List.idxOf (0 : Fin 2) gd.startIndexMap, List.idxOf_lt_length_iff.2 h0⟩ = startIdx y :=
    funext fun b => Fin.ext (match b with | ⟨0, _⟩ => rfl | ⟨1, _⟩ => rfl | ⟨2, _⟩ => rfl)
  unfold GatherDims.start
  rw [dif_pos h0, e]
  rfl
theorem offset_row (y : S1024x200x128.Idx) : gd.offCoord y 0 = 0 :=
  GatherDims.offCoord_eq_zero _ _ _ (by decide)

/-- Along the lanes: no start index, and the result's lane. -/
theorem start_lane (idx : IVec S1024x200x1 32) (y : S1024x200x128.Idx) : gd.start y idx 1 = 0 := by
  unfold GatherDims.start
  exact dif_neg (by decide)
theorem offset_lane (y : S1024x200x128.Idx) : gd.offCoord y 1 = (y 2).val := by
  unfold GatherDims.offCoord
  rw [dif_pos (by decide)]
  rfl

/-- The reference's gather at `(b, s, l)`: the table at the row the start index names, lane `l`. -/
theorem gather_apply (x : S100000x128.Idx → α) (idx : IVec S1024x200x1 32) (y : S1024x200x128.Idx) :
    Host.gather gd x idx y = x (ix2 (n0 := 100000) (n1 := 128) ⟨min (idx (startIdx y)).toInt.toNat 99999, by omega⟩ (y 2)) := by
  refine congrArg x (funext fun a => Fin.ext ?_)
  show gd.start y idx a + gd.batchCoord y a + gd.offCoord y a = _
  rw [GatherDims.batchCoord_eq_zero _ _ _ List.not_mem_nil, Nat.add_zero]
  match a with
  | ⟨0, _⟩ => exact congrArg₂ (· + ·) (start_row idx y) (offset_row y)
  | ⟨1, _⟩ => exact (congrArg₂ (· + ·) (start_lane idx y) (offset_lane y)).trans (Nat.zero_add _)

/-- What the kernel leaves in its first result, at `(b, s, l)`: the table at the row token `(b, s)` names, lane `l`. The
    token's flat position `200·b + s` is its row, chunk and lane among 32 rows of 50 chunks of 128. -/
theorem rows_apply (a : S1024x200.Idx → BitVec 32) (x : S100000x128.Idx → α) (h1 : S1024x200.ShapeCasts S32x50x128)
    (h2 : S32x50x128x128.ShapeCasts S1024x200x128) (y : S1024x200x128.Idx) :
    shapeCast S1024x200x128 (Cert.Proof.KernelIdeal.gath (shapeCast S32x50x128 a h1) x) h2 y
      = x (ix2 (n0 := 100000) (n1 := 128) ⟨(a (ix2 (n0 := 1024) (n1 := 200) (y 0) (y 1))).toNat % 100000, Nat.mod_lt _ (by decide)⟩ (y 2)) := by
  have h0 : (y 0).val < 1024 := (y 0).isLt
  have h1' : (y 1).val < 200 := (y 1).isLt
  have h2' : (y 2).val < 128 := (y 2).isLt
  let k : S32x50x128x128.Idx := fun b => match b with
    | ⟨0, _⟩ => ⟨((y 0).val * 200 + (y 1).val) / 6400, by show _ < 32; omega⟩
    | ⟨1, _⟩ => ⟨((y 0).val * 200 + (y 1).val) / 128 % 50, by show _ < 50; omega⟩
    | ⟨2, _⟩ => ⟨((y 0).val * 200 + (y 1).val) % 128, by show _ < 128; omega⟩
    | ⟨3, _⟩ => ⟨(y 2).val, h2'⟩
  have e1 : (S32x50x128x128.rowMajor k).val = (S1024x200x128.rowMajor y).val := by
    rw [Shape.rowMajor_val_four, Shape.rowMajor_val_three]
    show (((((y 0).val * 200 + (y 1).val) / 6400 * 50 + ((y 0).val * 200 + (y 1).val) / 128 % 50) * 128
      + ((y 0).val * 200 + (y 1).val) % 128) * 128 + (y 2).val) = ((y 0).val * 200 + (y 1).val) * 128 + (y 2).val
    omega
  rw [shapeCast_apply _ h2 y k e1]
  have e2 : shapeCast S32x50x128 a h1 (Cert.Proof.KernelIdeal.tokAt k) = a (ix2 (n0 := 1024) (n1 := 200) (y 0) (y 1)) := by
    refine shapeCast_apply _ h1 _ _ ?_
    rw [Shape.rowMajor_val_three, Shape.rowMajor_val_two]
    show (y 0).val * 200 + (y 1).val = ((((y 0).val * 200 + (y 1).val) / 6400 * 50 + ((y 0).val * 200 + (y 1).val) / 128 % 50) * 128
      + ((y 0).val * 200 + (y 1).val) % 128)
    omega
  unfold Cert.Proof.KernelIdeal.gath
  congr 1
  funext b
  refine Fin.ext ?_
  match b with
  | ⟨0, _⟩ => exact congrArg (fun v : BitVec 32 => v.toNat % 100000) e2
  | ⟨1, _⟩ => rfl

/-- The kernel's first result is the reference's `take`: every token being a row of the table, none is moved, none masked. -/
theorem take_eq (a : S1024x200.Idx → BitVec 32) (x : S100000x128.Idx → α) (ha : ∀ i, (a i).toNat < 100000)
    (h1 : S1024x200.ShapeCasts S32x50x128) (h2 : S32x50x128x128.ShapeCasts S1024x200x128)
    (w lo hi : IVec S1024x200x1 32) (one : IVec S_ 1) (b : S1024x200.BroadcastsInDim S1024x200x128 (![0, 1] : Fin 2 → Fin 3))
    (r : S1024x200x1.ReducesTo [2] S1024x200) (hS : 0 < S_.numel) (n : S1024x200x128.Idx → α)
    (hw : ∀ i, w i = a (ix2 (n0 := 1024) (n1 := 200) (i 0) (i 1))) (hlo : ∀ i, lo i = 0#32) (hhi : ∀ i, hi i = 99999#32) (hone : ∀ i, one i = 1#1) :
    select (broadcastInDim S1024x200x128 ![0, 1] b (Host.reduce IntOp.andi (andi (cmpi .sge w lo) (cmpi .sle w hi)) one r hS)) (Host.gather gd x w) n
      = shapeCast S1024x200x128 (Cert.Proof.KernelIdeal.gath (shapeCast S32x50x128 a h1) x) h2 := by
  have hm : Host.reduce IntOp.andi (andi (cmpi .sge w lo) (cmpi .sle w hi)) one r hS = fun _ => 1#1 := by
    funext j
    refine Host.reduce_andi_one _ _ _ _ _ (hone _) fun i => ?_
    show IntOp.andi (IntOp.cmpi .sge (w i) (lo i)) (IntOp.cmpi .sle (w i) (hi i)) = 1#1
    have hv := ha (ix2 (n0 := 1024) (n1 := 200) (i 0) (i 1))
    rw [hlo, hhi, hw, IntOp.andi_eq_one, IntOp.cmpi_sge, IntOp.cmpi_sle, toInt_of_lt hv]
    exact ⟨Int.natCast_nonneg _, by show _ ≤ (99999 : ℤ); omega⟩
  rw [hm]
  funext y
  rw [rows_apply]
  refine Eq.trans (b := Host.gather gd x w y) rfl ?_
  rw [gather_apply]
  have hv := ha (ix2 (n0 := 1024) (n1 := 200) (y 0) (y 1))
  congr 2
  refine Fin.ext ?_
  show min (w (startIdx y)).toInt.toNat 99999 = (a (ix2 (n0 := 1024) (n1 := 200) (y 0) (y 1))).toNat % 100000
  rw [hw]
  exact clamp_eq _ hv

end Gather

/-! ## The claims' runs -/

/-- The kernel's tokens are rows of the table. -/
theorem tokOK {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_in_vocab.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Cert.Proof.KernelIdeal.TokOK m := fun d i => tok_lt _ _ (h d) i

/-- The kernel's second result is the tokens compared with zero. -/
theorem mask_eq {F : FTy → Type} [FloatOps F] (m : (ℓ : Loc Cert.KernelIdeal.nD Cert.KernelIdeal.τ Cert.KernelIdeal.sig) → Buf (Elt F) ℓ)
    (d : Dev Cert.KernelIdeal.nD) (b : S_.BroadcastsInDim S1024x200 (![] : Fin 0 → Fin 2)) :
    Cert.Proof.KernelIdeal.res1 m d
      = cmpi .sgt (m (Cert.Proof.KernelIdeal.aLoc d) : S1024x200.Idx → BitVec 32) (broadcastInDim S1024x200 ![] b (constantI S_ 32 0#32)) := by
  funext i
  exact bit_ne_zero _

end Cert.Proof.Values

end
-- ==== Proof.lean ====
/-
  The proof of `Cert.Claim`: the frames from the two programs' runs (Proof/Main.lean and its twin at the idealized program), the
  reference's from its generated run, and the two results' equality from Proof/Values.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_vocab
public import proofs.«01_k».proof.Proof.Gen.ReferenceIdeal.Run
public import proofs.«01_k».proof.Proof.Main
public import proofs.«01_k».proof.Proof.Ideal.Main
public import proofs.«01_k».proof.Proof.Values
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel := fun m ρ hpre =>
  (θ_run Cert.Kernel.defs _ _).mono (fun _ h => ⟨fun c => ⟨(h.1 c).1, (h.1 c).2.1⟩, h.2⟩)
    (Kernel.run_main (F := Bits) m ρ fun d i => Values.tok_lt _ _ (hpre d) i)

/-- The idealized kernel's frame. -/
theorem frame_pi : Cert.quiescent_KernelIdeal := fun m ρ hpre =>
  (θ_run Cert.KernelIdeal.defs _ _).mono (fun _ h => ⟨fun c => ⟨(h.1 c).1, (h.1 c).2.1⟩, h.2⟩)
    (KernelIdeal.run_main (F := Ideal) m ρ (Values.tokOK m hpre))

/-- The reference's frame, from any memory: it declares no semaphore. -/
theorem frame_ri : Cert.quiescent_ReferenceIdeal := fun m ρ _ =>
  (θ_run Cert.ReferenceIdeal.defs _ _).mono
    (fun r h => ⟨fun c => ⟨(h c).2.2.1, (h c).2.2.2⟩, Idealize.ShloMosaic.sem_eq_zero_of_no_sems (by decide) r.2⟩)
    (Cert.ReferenceIdeal.Value.run (F := Ideal) m ρ)

theorem frame_ri_pre : Cert.quiescent_ReferenceIdeal_pre_in_vocab := fun m ρ _ => frame_ri m ρ trivial

/-- The start indices of the reference's gather, at tokens which are rows of the table: the tokens themselves. -/
theorem start_eq (a : Cert.KernelIdeal.S1024x200.Idx → BitVec 32) (ha : ∀ i, (a i).toNat < 100000)
    (i : Cert.ReferenceIdeal.S1024x200x1.Idx) :
    (broadcastInDim Cert.ReferenceIdeal.S1024x200x1 ![0, 1] Cert.ReferenceIdeal.Facts₀.bcast_S1024x200_S1024x200x1_0_1
      (select (cmpi .slt a (broadcastInDim Cert.ReferenceIdeal.S1024x200 ![] Cert.ReferenceIdeal.Facts₀.bcast_S_S1024x200 (constantI Cert.ReferenceIdeal.S_ 32 0#32)))
        (addi a (broadcastInDim Cert.ReferenceIdeal.S1024x200 ![] Cert.ReferenceIdeal.Facts₀.bcast_S_S1024x200 (constantI Cert.ReferenceIdeal.S_ 32 100000#32))) a)) i
      = a (ValueIdx.ix2 (n0 := 1024) (n1 := 200) (i 0) (i 1)) := by
  refine (congrFun (Values.wrap_eq a _ _ ha fun _ => rfl) _).trans ?_
  exact congrArg a (funext fun b => Fin.ext (match b with | ⟨0, _⟩ => rfl | ⟨1, _⟩ => rfl))

/-- The two programs' results agree. -/
theorem algebraic : Cert.algebraic_KernelIdeal_ReferenceIdeal := by
  intro m ρ m' ρ' hpre hagree
  have ht := Values.tokOK m hpre
  refine ⟨fun c => KernelIdeal.res0 m c, fun c => KernelIdeal.res1 m c, ?_, ?_⟩
  · exact (θ_run Cert.KernelIdeal.defs _ _).mono
      (fun _ h c => ⟨(h.1 c).2.2.1, (h.1 c).2.2.2, (h.1 c).1, (h.1 c).2.1⟩)
      (KernelIdeal.run_main (F := Ideal) m ρ ht)
  · refine (θ_run Cert.ReferenceIdeal.defs _ _).mono (fun _ h c => ⟨(h c).1.trans ?_, (h c).2.1.trans ?_, (h c).2.2⟩)
      (Cert.ReferenceIdeal.Value.run (F := Ideal) m' ρ')
    · rw [(hagree c).1, (hagree c).2]
      exact Values.take_eq _ _ (ht c) _ _ _ _ _ _ _ _ _ _ (start_eq _ (ht c)) (fun _ => rfl) (fun _ => rfl) (fun _ => rfl)
    · rw [(hagree c).1]
      exact (Values.mask_eq m c _).symm

theorem claim : Cert.Claim :=
  ⟨Cert.Kernel.Gen.facts, Cert.KernelIdeal.Gen.facts, Cert.ReferenceIdeal.Gen.facts, Cert.Pre_in_vocab.Gen.facts,
    frame_p, frame_pi, frame_ri, frame_ri_pre, trivial, algebraic⟩

end Cert.Proof

end
